-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v29_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v15_0)) (v1 : (c : Dev Cert.Kernel3Ideal.nD) → Buf (Elt Ideal) ((c.tc : Thread Cert.Kernel3Ideal.nD Cert.Kernel3Ideal.τ).loc Cert.Kernel3Ideal.main_v15_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15_0) = v0 c
          ∧ r.2.mem ((c.tc : Thread Cert.Kernel3Ideal.nD Cert.Kernel3Ideal.τ).loc Cert.Kernel3Ideal.main_v15_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_v22) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v21_0)) (v1 : (c : Dev Cert.Kernel4Ideal.nD) → Buf (Elt Ideal) ((c.tc : Thread Cert.Kernel4Ideal.nD Cert.Kernel4Ideal.τ).loc Cert.Kernel4Ideal.main_v21_1)) (v2 : (c : Dev Cert.Kernel4Ideal.nD) → Buf (Elt Ideal) ((c.tc : Thread Cert.Kernel4Ideal.nD Cert.Kernel4Ideal.τ).loc Cert.Kernel4Ideal.main_v21_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v21_0) = v0 c
          ∧ r.2.mem ((c.tc : Thread Cert.Kernel4Ideal.nD Cert.Kernel4Ideal.τ).loc Cert.Kernel4Ideal.main_v21_1) = v1 c
          ∧ r.2.mem ((c.tc : Thread Cert.Kernel4Ideal.nD Cert.Kernel4Ideal.τ).loc Cert.Kernel4Ideal.main_v21_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v47) = v0 c
          ∧ r.2.mem ((c.tc : Thread Cert.Reference4Ideal.nD Cert.Reference4Ideal.τ).loc Cert.Reference4Ideal.main_v48) = v1 c
          ∧ r.2.mem ((c.tc : Thread Cert.Reference4Ideal.nD Cert.Reference4Ideal.τ).loc Cert.Reference4Ideal.main_v50) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
-- ==== Pre_finite.lean ====
abbrev S1x16384x16x64 : Shape := ⟨4, ![1, 16384, 16, 64]⟩
abbrev S1x16384x16x32 : Shape := ⟨4, ![1, 16384, 16, 32]⟩
abbrev S1x16384x32 : Shape := ⟨3, ![1, 16384, 32]⟩
abbrev S_ : Shape := ⟨0, ![]⟩

class Facts : Prop where
  bcast_S_S1x16384x16x64 : S_.BroadcastsInDim S1x16384x16x64 (![] : Fin 0 → Fin S1x16384x16x64.rank)
  bcast_S_S1x16384x16x32 : S_.BroadcastsInDim S1x16384x16x32 (![] : Fin 0 → Fin S1x16384x16x32.rank)
  bcast_S_S1x16384x32 : S_.BroadcastsInDim S1x16384x32 (![] : Fin 0 → Fin S1x16384x32.rank)

variable [Facts]

def fn {F : FTy → Type} [FloatOps F] (main_arg0 : FVec F S1x16384x16x64 .f32) (main_arg1 : FVec F S1x16384x16x32 .f32) (main_arg2 : FVec F S1x16384x16x64 .f32) (main_arg3 : FVec F S1x16384x32 .f32) (main_arg4 : FVec F S1x16384x16x64 .f32) : IVec S1x16384x16x64 1 × IVec S1x16384x16x32 1 × IVec S1x16384x16x64 1 × IVec S1x16384x32 1 :=
  let main_v0 : FVec F S1x16384x16x64 .f32 := Host.absf main_arg0
  let main_cst : FVec F S_ .f32 := constant S_ .f32 0x7F800000#32
  let main_v1 : FVec F S1x16384x16x64 .f32 := broadcastInDim S1x16384x16x64 ![] bcast_S_S1x16384x16x64 main_cst
  let main_v2 : IVec S1x16384x16x64 1 := cmpf .olt main_v0 main_v1
  let main_v3 : FVec F S1x16384x16x32 .f32 := Host.absf main_arg1
  let main_cst_0 : FVec F S_ .f32 := constant S_ .f32 0x7F800000#32
  let main_v4 : FVec F S1x16384x16x32 .f32 := broadcastInDim S1x16384x16x32 ![] bcast_S_S1x16384x16x32 main_cst_0
  let main_v5 : IVec S1x16384x16x32 1 := cmpf .olt main_v3 main_v4
  let main_v6 : FVec F S1x16384x16x64 .f32 := Host.absf main_arg2
  let main_cst_1 : FVec F S_ .f32 := constant S_ .f32 0x7F800000#32
  let main_v7 : FVec F S1x16384x16x64 .f32 := broadcastInDim S1x16384x16x64 ![] bcast_S_S1x16384x16x64 main_cst_1
  let main_v8 : IVec S1x16384x16x64 1 := cmpf .olt main_v6 main_v7
  let main_v9 : FVec F S1x16384x32 .f32 := Host.absf main_arg3
  let main_cst_2 : FVec F S_ .f32 := constant S_ .f32 0x7F800000#32
  let main_v10 : FVec F S1x16384x32 .f32 := broadcastInDim S1x16384x32 ![] bcast_S_S1x16384x32 main_cst_2
  let main_v11 : IVec S1x16384x32 1 := cmpf .olt main_v9 main_v10
  (main_v2, main_v5, main_v8, main_v11)
-- ==== Pre_finite4.lean ====
abbrev S1x16384x2048 : Shape := ⟨3, ![1, 16384, 2048]⟩
abbrev S2048 : Shape := ⟨1, ![2048]⟩
abbrev S2048x6432 : Shape := ⟨2, ![2048, 6432]⟩
abbrev S_ : Shape := ⟨0, ![]⟩

class Facts : Prop where
  bcast_S_S2048 : S_.BroadcastsInDim S2048 (![] : Fin 0 → Fin S2048.rank)
  bcast_S_S2048x6432 : S_.BroadcastsInDim S2048x6432 (![] : Fin 0 → Fin S2048x6432.rank)

variable [Facts]

def fn {F : FTy → Type} [FloatOps F] (main_arg0 : FVec F S1x16384x2048 .f32) (main_arg1 : FVec F S2048 .f32) (main_arg2 : FVec F S2048x6432 .f32) : IVec S2048 1 × IVec S2048x6432 1 :=
  let main_v0 : FVec F S2048 .f32 := Host.absf main_arg1
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_v3 : FVec F S2048x6432 .f32 := Host.absf main_arg2
  let main_cst_0 : FVec F S_ .f32 := constant S_ .f32 0x7F800000#32
  let main_v4 : FVec F S2048x6432 .f32 := broadcastInDim S2048x6432 ![] bcast_S_S2048x6432 main_cst_0
  let main_v5 : IVec S2048x6432 1 := cmpf .olt main_v3 main_v4
  (main_v2, main_v5)
-- ==== Kernel.lean ====
abbrev S1x16384x16x64 : Shape := ⟨4, ![1, 16384, 16, 64]⟩
abbrev S1x16384x16x32 : Shape := ⟨4, ![1, 16384, 16, 32]⟩
abbrev S1x16384x32 : Shape := ⟨3, ![1, 16384, 32]⟩
abbrev S_ : Shape := ⟨0, ![]⟩
abbrev S16384x16x64 : Shape := ⟨3, ![16384, 16, 64]⟩
abbrev S16384x16x32 : Shape := ⟨3, ![16384, 16, 32]⟩
abbrev S16384x16x128 : Shape := ⟨3, ![16384, 16, 128]⟩
abbrev S16384x2048 : Shape := ⟨2, ![16384, 2048]⟩
abbrev S2048x16384 : Shape := ⟨2, ![2048, 16384]⟩
abbrev S16384x32 : Shape := ⟨2, ![16384, 32]⟩
abbrev S16384x1x32 : Shape := ⟨3, ![16384, 1, 32]⟩
abbrev S16384x16x1 : Shape := ⟨3, ![16384, 16, 1]⟩
abbrev S16384x16x31 : Shape := ⟨3, ![16384, 16, 31]⟩
abbrev S16x16384x128 : Shape := ⟨3, ![16, 16384, 128]⟩
abbrev S16384x16x15 : Shape := ⟨3, ![16384, 16, 15]⟩
abbrev S16384x16x80 : Shape := ⟨3, ![16384, 16, 80]⟩
abbrev S32x512x1280 : Shape := ⟨3, ![32, 512, 1280]⟩
abbrev S32x1280x512 : Shape := ⟨3, ![32, 1280, 512]⟩
abbrev S1024x16384 : Shape := ⟨2, ![1024, 16384]⟩
abbrev S512x8x128 : Shape := ⟨3, ![512, 8, 128]⟩
abbrev S128x512 : Shape := ⟨2, ![128, 512]⟩
abbrev S1x16384x128 : Shape := ⟨3, ![1, 16384, 128]⟩
abbrev S32x80x512 : Shape := ⟨3, ![32, 80, 512]⟩
abbrev S64x512 : Shape := ⟨2, ![64, 512]⟩
abbrev S1x8x128 : Shape := ⟨3, ![1, 8, 128]⟩
abbrev S2x512x512 : Shape := ⟨3, ![2, 512, 512]⟩
abbrev S1x512 : Shape := ⟨2, ![1, 512]⟩
abbrev S1x64x128 : Shape := ⟨3, ![1, 64, 128]⟩
abbrev S64x128 : Shape := ⟨2, ![64, 128]⟩
abbrev S512 : Shape := ⟨1, ![512]⟩
abbrev S16x512 : Shape := ⟨2, ![16, 512]⟩
abbrev S80x512 : Shape := ⟨2, ![80, 512]⟩
abbrev S1x512x128 : Shape := ⟨3, ![1, 512, 128]⟩
abbrev S512x128 : Shape := ⟨2, ![512, 128]⟩
abbrev S512x512 : Shape := ⟨2, ![512, 512]⟩
abbrev S1x512x512 : Shape := ⟨3, ![1, 512, 512]⟩
abbrev S1x80x512 : Shape := ⟨3, ![1, 80, 512]⟩
abbrev S1x1x512 : Shape := ⟨3, ![1, 1, 512]⟩
abbrev S1 : Shape := ⟨1, ![1]⟩
abbrev S1x1x1 : Shape := ⟨3, ![1, 1, 1]⟩

abbrev nBuf : Space → Nat
  | .hbm => 44
  | .vmem => 15
  | .smem => 0
  | _ => 0

abbrev bufTy : (tb : Table) → Fin (tcTables nBuf tb) → BufTy
  | .hbm, ⟨0, _⟩ => ⟨S1x16384x16x64, .f32⟩
  | .hbm, ⟨1, _⟩ => ⟨S1x16384x16x32, .f32⟩
  | .hbm, ⟨2, _⟩ => ⟨S1x16384x16x64, .f32⟩
  | .hbm, ⟨3, _⟩ => ⟨S1x16384x32, .f32⟩
  | .hbm, ⟨4, _⟩ => ⟨S1x16384x16x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S16384x16x64, .f32⟩
  | .hbm, ⟨13, _⟩ => ⟨S16384x16x32, .f32⟩
  | .hbm, ⟨14, _⟩ => ⟨S_, .f32⟩
  | .hbm, ⟨15, _⟩ => ⟨S16384x16x32, .f32⟩
  | .hbm, ⟨16, _⟩ => ⟨S16384x16x128, .f32⟩
  | .hbm, ⟨17, _⟩ => ⟨S16384x16x128, .f32⟩
  | .hbm, ⟨18, _⟩ => ⟨S16384x16x128, .f32⟩
  | .hbm, ⟨19, _⟩ => ⟨S16384x2048, .f32⟩
  | .hbm, ⟨20, _⟩ => ⟨S2048x16384, .f32⟩
  | .hbm, ⟨21, _⟩ => ⟨S2048x16384, .bf16⟩
  | .hbm, ⟨22, _⟩ => ⟨S16384x16x64, .f32⟩
  | .hbm, ⟨23, _⟩ => ⟨S16384x32, .f32⟩
  | .hbm, ⟨24, _⟩ => ⟨S16384x1x32, .f32⟩
  | .hbm, ⟨25, _⟩ => ⟨S16384x16x32, .f32⟩
  | .hbm, ⟨26, _⟩ => ⟨S_, .f32⟩
  | .hbm, ⟨27, _⟩ => ⟨S16384x16x1, .f32⟩
  | .hbm, ⟨28, _⟩ => ⟨S_, .f32⟩
  | .hbm, ⟨29, _⟩ => ⟨S16384x16x31, .f32⟩
  | .hbm, ⟨30, _⟩ => ⟨S16384x16x128, .f32⟩
  | .hbm, ⟨31, _⟩ => ⟨S16x16384x128, .f32⟩
  | .hbm, ⟨32, _⟩ => ⟨S16x16384x128, .bf16⟩
  | .hbm, ⟨33, _⟩ => ⟨S16384x16x64, .f32⟩
  | .hbm, ⟨34, _⟩ => ⟨S_, .f32⟩
  | .hbm, ⟨35, _⟩ => ⟨S16384x16x1, .f32⟩
  | .hbm, ⟨36, _⟩ => ⟨S_, .f32⟩
  | .hbm, ⟨37, _⟩ => ⟨S16384x16x15, .f32⟩
  | .hbm, ⟨38, _⟩ => ⟨S16384x16x80, .f32⟩
  | .hbm, ⟨39, _⟩ => ⟨S32x512x1280, .f32⟩
  | .hbm, ⟨40, _⟩ => ⟨S32x1280x512, .f32⟩
  | .hbm, ⟨41, _⟩ => ⟨S32x1280x512, .bf16⟩
  | .hbm, ⟨42, _⟩ => ⟨S1024x16384, .bf16⟩
  | .hbm, ⟨43, _⟩ => ⟨S512x8x128, .f32⟩
  | .local _ .vmem, ⟨0, _⟩ => ⟨S128x512, .bf16⟩
  | .local _ .vmem, ⟨1, _⟩ => ⟨S128x512, .bf16⟩
  | .local _ .vmem, ⟨2, _⟩ => ⟨S128x512, .bf16⟩
  | .local _ .vmem, ⟨3, _⟩ => ⟨S128x512, .bf16⟩
  | .local _ .vmem, ⟨4, _⟩ => ⟨S1x16384x128, .bf16⟩
  | .local _ .vmem, ⟨5, _⟩ => ⟨S1x16384x128, .bf16⟩
  | .local _ .vmem, ⟨6, _⟩ => ⟨S32x80x512, .bf16⟩
  | .local _ .vmem, ⟨7, _⟩ => ⟨S32x80x512, .bf16⟩
  | .local _ .vmem, ⟨8, _⟩ => ⟨S64x512, .bf16⟩
  | .local _ .vmem, ⟨9, _⟩ => ⟨S64x512, .bf16⟩
  | .local _ .vmem, ⟨10, _⟩ => ⟨S1x8x128, .f32⟩
  | .local _ .vmem, ⟨11, _⟩ => ⟨S1x8x128, .f32⟩
  | .local _ .vmem, ⟨12, _⟩ => ⟨S2x512x512, .f32⟩
  | .local _ .vmem, ⟨13, _⟩ => ⟨S128x512, .bf16⟩
  | .local _ .vmem, ⟨14, _⟩ => ⟨S1x512, .f32⟩
  | _, _ => ⟨S1x16384x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29_0 : Ref sig .tc := ⟨.hbm, 42, rfl⟩
abbrev main_v29_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c0_i32 : BitVec 32 := 0#32
  ![arg0.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S32x80x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S1x16384x16x64 : Shape := ⟨4, ![1, 16384, 16, 64]⟩
abbrev S1x16384x16x32 : Shape := ⟨4, ![1, 16384, 16, 32]⟩
abbrev S1x16384x32 : Shape := ⟨3, ![1, 16384, 32]⟩
abbrev S_ : Shape := ⟨0, ![]⟩
abbrev S1x16x16384x16384 : Shape := ⟨4, ![1, 16, 16384, 16384]⟩
abbrev S1x16384x16384x16 : Shape := ⟨4, ![1, 16384, 16384, 16]⟩
abbrev S1x16x16384 : Shape := ⟨3, ![1, 16, 16384]⟩
abbrev S1x16x16384x1 : Shape := ⟨4, ![1, 16, 16384, 1]⟩
abbrev S1x16x64x16384 : Shape := ⟨4, ![1, 16, 64, 16384]⟩
abbrev S1x16384x1024 : Shape := ⟨3, ![1, 16384, 1024]⟩
abbrev S16384x1024 : Shape := ⟨2, ![16384, 1024]⟩
abbrev S1024x16384 : Shape := ⟨2, ![1024, 16384]⟩

abbrev nBuf : Space → Nat
  | .hbm => 35
  | .vmem => 0
  | .smem => 0
  | _ => 0

abbrev bufTy : (tb : Table) → Fin (tcTables nBuf tb) → BufTy
  | .hbm, ⟨0, _⟩ => ⟨S1x16384x16x64, .f32⟩
  | .hbm, ⟨1, _⟩ => ⟨S1x16384x16x32, .f32⟩
  | .hbm, ⟨2, _⟩ => ⟨S1x16384x16x64, .f32⟩
  | .hbm, ⟨3, _⟩ => ⟨S1x16384x32, .f32⟩
  | .hbm, ⟨4, _⟩ => ⟨S1x16384x16x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1x16x16384x16384, .f32⟩
  | .hbm, ⟨10, _⟩ => ⟨S1x16384x16384x16, .f32⟩
  | .hbm, ⟨11, _⟩ => ⟨S1x16x16384x16384, .f32⟩
  | .hbm, ⟨12, _⟩ => ⟨S1x16x16384x16384, .f32⟩
  | .hbm, ⟨13, _⟩ => ⟨S1x16x16384x16384, .f32⟩
  | .hbm, ⟨14, _⟩ => ⟨S1x16x16384x16384, .f32⟩
  | .hbm, ⟨15, _⟩ => ⟨S_, .f32⟩
  | .hbm, ⟨16, _⟩ => ⟨S1x16x16384, .f32⟩
  | .hbm, ⟨17, _⟩ => ⟨S_, .f32⟩
  | .hbm, ⟨18, _⟩ => ⟨S1x16x16384, .f32⟩
  | .hbm, ⟨19, _⟩ => ⟨S1x16x16384, .f32⟩
  | .hbm, ⟨20, _⟩ => ⟨S1x16x16384x1, .f32⟩
  | .hbm, ⟨21, _⟩ => ⟨S1x16x16384x16384, .f32⟩
  | .hbm, ⟨22, _⟩ => ⟨S1x16x16384x16384, .f32⟩
  | .hbm, ⟨23, _⟩ => ⟨S1x16x16384x16384, .f32⟩
  | .hbm, ⟨24, _⟩ => ⟨S_, .f32⟩
  | .hbm, ⟨25, _⟩ => ⟨S1x16x16384, .f32⟩
  | .hbm, ⟨26, _⟩ => ⟨S1x16x16384x1, .f32⟩
  | .hbm, ⟨27, _⟩ => ⟨S1x16x16384x16384, .f32⟩
  | .hbm, ⟨28, _⟩ => ⟨S1x16x16384x16384, .f32⟩
  | .hbm, ⟨29, _⟩ => ⟨S1x16x64x16384, .f32⟩
  | .hbm, ⟨30, _⟩ => ⟨S1x16384x16x64, .f32⟩
  | .hbm, ⟨31, _⟩ => ⟨S1x16384x1024, .f32⟩
  | .hbm, ⟨32, _⟩ => ⟨S16384x1024, .f32⟩
  | .hbm, ⟨33, _⟩ => ⟨S1024x16384, .f32⟩
  | .hbm, ⟨34, _⟩ => ⟨S1024x16384, .bf16⟩
  | _, _ => ⟨S1x16384x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Kernel2.lean ====
abbrev S1x16384x2048 : Shape := ⟨3, ![1, 16384, 2048]⟩
abbrev S2048x8192 : Shape := ⟨2, ![2048, 8192]⟩
abbrev S8192x2048 : Shape := ⟨2, ![8192, 2048]⟩
abbrev S2048 : Shape := ⟨1, ![2048]⟩
abbrev S16384x2048 : Shape := ⟨2, ![16384, 2048]⟩
abbrev S1x2048 : Shape := ⟨2, ![1, 2048]⟩
abbrev S512x2048 : Shape := ⟨2, ![512, 2048]⟩
abbrev S2048x1024 : Shape := ⟨2, ![2048, 1024]⟩
abbrev S1024x2048 : Shape := ⟨2, ![1024, 2048]⟩
abbrev S512x1024 : Shape := ⟨2, ![512, 1024]⟩
abbrev S512x512 : Shape := ⟨2, ![512, 512]⟩
abbrev S1024x512 : Shape := ⟨2, ![1024, 512]⟩
abbrev S512 : Shape := ⟨1, ![512]⟩
abbrev S512x1 : Shape := ⟨2, ![512, 1]⟩

abbrev nBuf : Space → Nat
  | .hbm => 12
  | .vmem => 11
  | .smem => 0
  | _ => 0

abbrev bufTy : (tb : Table) → Fin (tcTables nBuf tb) → BufTy
  | .hbm, ⟨0, _⟩ => ⟨S1x16384x2048, .f32⟩
  | .hbm, ⟨1, _⟩ => ⟨S1x16384x2048, .f32⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S16384x2048, .f32⟩
  | .hbm, ⟨6, _⟩ => ⟨S16384x2048, .bf16⟩
  | .hbm, ⟨7, _⟩ => ⟨S16384x2048, .f32⟩
  | .hbm, ⟨8, _⟩ => ⟨S2048x8192, .bf16⟩
  | .hbm, ⟨9, _⟩ => ⟨S8192x2048, .bf16⟩
  | .hbm, ⟨10, _⟩ => ⟨S1x2048, .f32⟩
  | .hbm, ⟨11, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2048x1024, .bf16⟩
  | .local _ .vmem, ⟨5, _⟩ => ⟨S2048x1024, .bf16⟩
  | .local _ .vmem, ⟨6, _⟩ => ⟨S1024x2048, .bf16⟩
  | .local _ .vmem, ⟨7, _⟩ => ⟨S1024x2048, .bf16⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S1x16384x2048 : Shape := ⟨3, ![1, 16384, 2048]⟩
abbrev S2048x8192 : Shape := ⟨2, ![2048, 8192]⟩
abbrev S8192x2048 : Shape := ⟨2, ![8192, 2048]⟩
abbrev S2048 : Shape := ⟨1, ![2048]⟩
abbrev S1x16384x8192 : Shape := ⟨3, ![1, 16384, 8192]⟩
abbrev S_ : Shape := ⟨0, ![]⟩
abbrev S1x16384 : Shape := ⟨2, ![1, 16384]⟩
abbrev S1x16384x1 : Shape := ⟨3, ![1, 16384, 1]⟩
abbrev S1x1x2048 : Shape := ⟨3, ![1, 1, 2048]⟩
abbrev S16384x2048 : Shape := ⟨2, ![16384, 2048]⟩

abbrev nBuf : Space → Nat
  | .hbm => 29
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S1x16384x2048, .f32⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S1x16384x8192, .f32⟩
  | .hbm, ⟨6, _⟩ => ⟨S_, .f32⟩
  | .hbm, ⟨7, _⟩ => ⟨S1x16384x8192, .f32⟩
  | .hbm, ⟨8, _⟩ => ⟨S1x16384x8192, .f32⟩
  | .hbm, ⟨9, _⟩ => ⟨S1x16384x8192, .f32⟩
  | .hbm, ⟨10, _⟩ => ⟨S1x16384x2048, .f32⟩
  | .hbm, ⟨11, _⟩ => ⟨S1x16384x2048, .f32⟩
  | .hbm, ⟨12, _⟩ => ⟨S1x16384x2048, .f32⟩
  | .hbm, ⟨13, _⟩ => ⟨S_, .f32⟩
  | .hbm, ⟨14, _⟩ => ⟨S1x16384, .f32⟩
  | .hbm, ⟨15, _⟩ => ⟨S1x16384x1, .f32⟩
  | .hbm, ⟨16, _⟩ => ⟨S_, .f32⟩
  | .hbm, ⟨17, _⟩ => ⟨S1x16384x1, .f32⟩
  | .hbm, ⟨18, _⟩ => ⟨S1x16384x1, .f32⟩
  | .hbm, ⟨19, _⟩ => ⟨S_, .f32⟩
  | .hbm, ⟨20, _⟩ => ⟨S1x16384x1, .f32⟩
  | .hbm, ⟨21, _⟩ => ⟨S1x16384x1, .f32⟩
  | .hbm, ⟨22, _⟩ => ⟨S1x16384x1, .f32⟩
  | .hbm, ⟨23, _⟩ => ⟨S1x16384x2048, .f32⟩
  | .hbm, ⟨24, _⟩ => ⟨S1x16384x2048, .f32⟩
  | .hbm, ⟨25, _⟩ => ⟨S1x1x2048, .f32⟩
  | .hbm, ⟨26, _⟩ => ⟨S1x16384x2048, .f32⟩
  | .hbm, ⟨27, _⟩ => ⟨S1x16384x2048, .f32⟩
  | .hbm, ⟨28, _⟩ => ⟨S16384x2048, .f32⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Kernel3.lean ====
abbrev S1x16384x2048 : Shape := ⟨3, ![1, 16384, 2048]⟩
abbrev S1x16384x1024 : Shape := ⟨3, ![1, 16384, 1024]⟩
abbrev S1024x2048 : Shape := ⟨2, ![1024, 2048]⟩
abbrev S2048x2048 : Shape := ⟨2, ![2048, 2048]⟩
abbrev S2048 : Shape := ⟨1, ![2048]⟩
abbrev S16384x2048 : Shape := ⟨2, ![16384, 2048]⟩
abbrev S16384x4096 : Shape := ⟨2, ![16384, 4096]⟩
abbrev S16384x1024 : Shape := ⟨2, ![16384, 1024]⟩
abbrev S1024x16384 : Shape := ⟨2, ![1024, 16384]⟩
abbrev S1x2048 : Shape := ⟨2, ![1, 2048]⟩
abbrev S512x2048 : Shape := ⟨2, ![512, 2048]⟩
abbrev S1024x512 : Shape := ⟨2, ![1024, 512]⟩
abbrev S512 : Shape := ⟨1, ![512]⟩
abbrev S512x1 : Shape := ⟨2, ![512, 1]⟩

abbrev nBuf : Space → Nat
  | .hbm => 26
  | .vmem => 18
  | .smem => 0
  | _ => 0

abbrev bufTy : (tb : Table) → Fin (tcTables nBuf tb) → BufTy
  | .hbm, ⟨0, _⟩ => ⟨S1x16384x2048, .f32⟩
  | .hbm, ⟨1, _⟩ => ⟨S1x16384x1024, .f32⟩
  | .hbm, ⟨2, _⟩ => ⟨S1x16384x1024, .f32⟩
  | .hbm, ⟨3, _⟩ => ⟨S1x16384x2048, .f32⟩
  | .hbm, ⟨4, _⟩ => ⟨S1x16384x2048, .f32⟩
  | .hbm, ⟨5, _⟩ => ⟨S1024x2048, .f32⟩
  | .hbm, ⟨6, _⟩ => ⟨S1024x2048, .f32⟩
  | .hbm, ⟨7, _⟩ => ⟨S2048x2048, .f32⟩
  | .hbm, ⟨8, _⟩ => ⟨S2048, .f32⟩
  | .hbm, ⟨9, _⟩ => ⟨S16384x2048, .f32⟩
  | .hbm, ⟨10, _⟩ => ⟨S16384x2048, .f32⟩
  | .hbm, ⟨11, _⟩ => ⟨S16384x4096, .f32⟩
  | .hbm, ⟨12, _⟩ => ⟨S16384x4096, .bf16⟩
  | .hbm, ⟨13, _⟩ => ⟨S16384x2048, .f32⟩
  | .hbm, ⟨14, _⟩ => ⟨S16384x1024, .f32⟩
  | .hbm, ⟨15, _⟩ => ⟨S1024x16384, .f32⟩
  | .hbm, ⟨16, _⟩ => ⟨S1024x16384, .bf16⟩
  | .hbm, ⟨17, _⟩ => ⟨S16384x1024, .f32⟩
  | .hbm, ⟨18, _⟩ => ⟨S1024x16384, .f32⟩
  | .hbm, ⟨19, _⟩ => ⟨S1024x16384, .bf16⟩
  | .hbm, ⟨20, _⟩ => ⟨S1024x2048, .bf16⟩
  | .hbm, ⟨21, _⟩ => ⟨S1024x2048, .bf16⟩
  | .hbm, ⟨22, _⟩ => ⟨S2048x2048, .bf16⟩
  | .hbm, ⟨23, _⟩ => ⟨S1x2048, .f32⟩
  | .hbm, ⟨24, _⟩ => ⟨S16384x2048, .f32⟩
  | .hbm, ⟨25, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | .local _ .vmem, ⟨17, _⟩ => ⟨S512x2048, .bf16⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S1x16384x2048 : Shape := ⟨3, ![1, 16384, 2048]⟩
abbrev S1x16384x1024 : Shape := ⟨3, ![1, 16384, 1024]⟩
abbrev S1024x2048 : Shape := ⟨2, ![1024, 2048]⟩
abbrev S2048x2048 : Shape := ⟨2, ![2048, 2048]⟩
abbrev S2048 : Shape := ⟨1, ![2048]⟩
abbrev S_ : Shape := ⟨0, ![]⟩
abbrev S1x16384 : Shape := ⟨2, ![1, 16384]⟩
abbrev S1x16384x1 : Shape := ⟨3, ![1, 16384, 1]⟩
abbrev S1x1x2048 : Shape := ⟨3, ![1, 1, 2048]⟩
abbrev S16384x2048 : Shape := ⟨2, ![16384, 2048]⟩

abbrev nBuf : Space → Nat
  | .hbm => 35
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S1x16384x1024, .f32⟩
  | .hbm, ⟨2, _⟩ => ⟨S1x16384x1024, .f32⟩
  | .hbm, ⟨3, _⟩ => ⟨S1x16384x2048, .f32⟩
  | .hbm, ⟨4, _⟩ => ⟨S1x16384x2048, .f32⟩
  | .hbm, ⟨5, _⟩ => ⟨S1024x2048, .f32⟩
  | .hbm, ⟨6, _⟩ => ⟨S1024x2048, .f32⟩
  | .hbm, ⟨7, _⟩ => ⟨S2048x2048, .f32⟩
  | .hbm, ⟨8, _⟩ => ⟨S2048, .f32⟩
  | .hbm, ⟨9, _⟩ => ⟨S1x16384x2048, .f32⟩
  | .hbm, ⟨10, _⟩ => ⟨S1x16384x2048, .f32⟩
  | .hbm, ⟨11, _⟩ => ⟨S1x16384x2048, .f32⟩
  | .hbm, ⟨12, _⟩ => ⟨S1x16384x2048, .f32⟩
  | .hbm, ⟨13, _⟩ => ⟨S1x16384x2048, .f32⟩
  | .hbm, ⟨14, _⟩ => ⟨S1x16384x2048, .f32⟩
  | .hbm, ⟨15, _⟩ => ⟨S1x16384x2048, .f32⟩
  | .hbm, ⟨16, _⟩ => ⟨S1x16384x2048, .f32⟩
  | .hbm, ⟨17, _⟩ => ⟨S_, .f32⟩
  | .hbm, ⟨18, _⟩ => ⟨S1x16384, .f32⟩
  | .hbm, ⟨19, _⟩ => ⟨S1x16384x1, .f32⟩
  | .hbm, ⟨20, _⟩ => ⟨S_, .f32⟩
  | .hbm, ⟨21, _⟩ => ⟨S1x16384x1, .f32⟩
  | .hbm, ⟨22, _⟩ => ⟨S1x16384x1, .f32⟩
  | .hbm, ⟨23, _⟩ => ⟨S_, .f32⟩
  | .hbm, ⟨24, _⟩ => ⟨S1x16384x1, .f32⟩
  | .hbm, ⟨25, _⟩ => ⟨S1x16384x1, .f32⟩
  | .hbm, ⟨26, _⟩ => ⟨S1x16384x1, .f32⟩
  | .hbm, ⟨27, _⟩ => ⟨S1x16384x2048, .f32⟩
  | .hbm, ⟨28, _⟩ => ⟨S1x16384x2048, .f32⟩
  | .hbm, ⟨29, _⟩ => ⟨S1x1x2048, .f32⟩
  | .hbm, ⟨30, _⟩ => ⟨S1x16384x2048, .f32⟩
  | .hbm, ⟨31, _⟩ => ⟨S1x16384x2048, .f32⟩
  | .hbm, ⟨32, _⟩ => ⟨S16384x2048, .f32⟩
  | .hbm, ⟨33, _⟩ => ⟨S16384x2048, .f32⟩
  | .hbm, ⟨34, _⟩ => ⟨S16384x2048, .bf16⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]
-- ==== Kernel4.lean ====
abbrev S1x16384x2048 : Shape := ⟨3, ![1, 16384, 2048]⟩
abbrev S2048 : Shape := ⟨1, ![2048]⟩
abbrev S2048x6432 : Shape := ⟨2, ![2048, 6432]⟩
abbrev S6432x2048 : Shape := ⟨2, ![6432, 2048]⟩
abbrev S2048x2048 : Shape := ⟨2, ![2048, 2048]⟩
abbrev S32x2048 : Shape := ⟨2, ![32, 2048]⟩
abbrev S16x2048 : Shape := ⟨2, ![16, 2048]⟩
abbrev S_ : Shape := ⟨0, ![]⟩
abbrev S192x2048 : Shape := ⟨2, ![192, 2048]⟩
abbrev S288x2048 : Shape := ⟨2, ![288, 2048]⟩
abbrev S512x2048 : Shape := ⟨2, ![512, 2048]⟩
abbrev S4096x2048 : Shape := ⟨2, ![4096, 2048]⟩
abbrev S1x1024 : Shape := ⟨2, ![1, 1024]⟩
abbrev S1x512 : Shape := ⟨2, ![1, 512]⟩
abbrev S1x1536 : Shape := ⟨2, ![1, 1536]⟩
abbrev S16384x2048 : Shape := ⟨2, ![16384, 2048]⟩
abbrev S1x2048 : Shape := ⟨2, ![1, 2048]⟩
abbrev S16384x1536 : Shape := ⟨2, ![16384, 1536]⟩
abbrev S16384x1024 : Shape := ⟨2, ![16384, 1024]⟩
abbrev S16384x4096 : Shape := ⟨2, ![16384, 4096]⟩
abbrev S1024x2048 : Shape := ⟨2, ![1024, 2048]⟩
abbrev S1024x512 : Shape := ⟨2, ![1024, 512]⟩
abbrev S1024x1024 : Shape := ⟨2, ![1024, 1024]⟩
abbrev S256x2048 : Shape := ⟨2, ![256, 2048]⟩
abbrev S256 : Shape := ⟨1, ![256]⟩
abbrev S256x1 : Shape := ⟨2, ![256, 1]⟩

abbrev nBuf : Space → Nat
  | .hbm => 31
  | .vmem => 17
  | .smem => 0
  | _ => 0

abbrev bufTy : (tb : Table) → Fin (tcTables nBuf tb) → BufTy
  | .hbm, ⟨0, _⟩ => ⟨S1x16384x2048, .f32⟩
  | .hbm, ⟨1, _⟩ => ⟨S2048, .f32⟩
  | .hbm, ⟨2, _⟩ => ⟨S2048x6432, .f32⟩
  | .hbm, ⟨3, _⟩ => ⟨S6432x2048, .f32⟩
  | .hbm, ⟨4, _⟩ => ⟨S2048x2048, .f32⟩
  | .hbm, ⟨5, _⟩ => ⟨S2048x2048, .bf16⟩
  | .hbm, ⟨6, _⟩ => ⟨S32x2048, .f32⟩
  | .hbm, ⟨7, _⟩ => ⟨S16x2048, .f32⟩
  | .hbm, ⟨8, _⟩ => ⟨S16x2048, .f32⟩
  | .hbm, ⟨9, _⟩ => ⟨S16x2048, .f32⟩
  | .hbm, ⟨10, _⟩ => ⟨S32x2048, .f32⟩
  | .hbm, ⟨11, _⟩ => ⟨S_, .f32⟩
  | .hbm, ⟨12, _⟩ => ⟨S192x2048, .f32⟩
  | .hbm, ⟨13, _⟩ => ⟨S288x2048, .f32⟩
  | .hbm, ⟨14, _⟩ => ⟨S512x2048, .f32⟩
  | .hbm, ⟨15, _⟩ => ⟨S512x2048, .bf16⟩
  | .hbm, ⟨16, _⟩ => ⟨S4096x2048, .f32⟩
  | .hbm, ⟨17, _⟩ => ⟨S4096x2048, .bf16⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1x1024, .f32⟩
  | .hbm, ⟨23, _⟩ => ⟨S_, .f32⟩
  | .hbm, ⟨24, _⟩ => ⟨S1x512, .f32⟩
  | .hbm, ⟨25, _⟩ => ⟨S1x1536, .f32⟩
  | .hbm, ⟨26, _⟩ => ⟨S16384x2048, .f32⟩
  | .hbm, ⟨27, _⟩ => ⟨S1x2048, .f32⟩
  | .hbm, ⟨28, _⟩ => ⟨S16384x1536, .bf16⟩
  | .hbm, ⟨29, _⟩ => ⟨S16384x1024, .f32⟩
  | .hbm, ⟨30, _⟩ => ⟨S16384x4096, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S1024x2048, .bf16⟩
  | .local _ .vmem, ⟨7, _⟩ => ⟨S1024x2048, .bf16⟩
  | .local _ .vmem, ⟨8, _⟩ => ⟨S1x512, .f32⟩
  | .local _ .vmem, ⟨9, _⟩ => ⟨S1x512, .f32⟩
  | .local _ .vmem, ⟨10, _⟩ => ⟨S1024x512, .bf16⟩
  | .local _ .vmem, ⟨11, _⟩ => ⟨S1024x512, .bf16⟩
  | .local _ .vmem, ⟨12, _⟩ => ⟨S1024x512, .f32⟩
  | .local _ .vmem, ⟨13, _⟩ => ⟨S1024x512, .f32⟩
  | .local _ .vmem, ⟨14, _⟩ => ⟨S1024x1024, .bf16⟩
  | .local _ .vmem, ⟨15, _⟩ => ⟨S1024x1024, .bf16⟩
  | .local _ .vmem, ⟨16, _⟩ => ⟨S1024x2048, .bf16⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21_0 : Ref sig .tc := ⟨.hbm, 28, rfl⟩
abbrev main_v21_1 : Ref sig .tc := ⟨.hbm, 29, rfl⟩
abbrev main_v21_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 9], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c4_i32_7 : BitVec 32 := 4#32
  let v15 : BitVec 32 := Scalar.addi c0_i32_6 c4_i32_7
  let c1_i32 : BitVec 32 := 1#32
  ⟨c0_i32_6, v15, c1_i32⟩
def k0_mult1 (k0_t1 : Fin k0_t1_loop.trips) : BitVec 32 :=
  let c0_i32_6 : BitVec 32 := 0#32
  let c1_i32 : BitVec 32 := 1#32
  let arg12 : BitVec 32 := Scf.iv c0_i32_6 c1_i32 k0_t1
  let c256_i32 : BitVec 32 := 256#32
  let v16 : BitVec 32 := Scalar.muli arg12 c256_i32
  v16
def k0_off1 (k0_t1 : Fin k0_t1_loop.trips) : Fin 2 → Nat :=
  let c0_i32_6 : BitVec 32 := 0#32
  let c1_i32 : BitVec 32 := 1#32
  let arg12 : BitVec 32 := Scf.iv c0_i32_6 c1_i32 k0_t1
  let c256_i32 : BitVec 32 := 256#32
  let v16 : BitVec 32 := Scalar.muli arg12 c256_i32
  let v17 : BitVec 32 := v16
  let v18 : Index := Scalar.indexCast v17
  let c0 : Index := 0#32
  ![v18.toNat, 0]
def k0_cond2 (i : grid0.Coords) : BitVec 1 :=
  let arg1 : BitVec 32 := BitVec.ofNat 32 (i 1).val
  let c3_i32 : BitVec 32 := 3#32
  let v3 : BitVec 1 := Scalar.cmpi .slt arg1 c3_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c3_i32_2 : BitVec 32 := 3#32
  let v6 : BitVec 1 := Scalar.cmpi .eq arg1 c3_i32_2
  let v7 : BitVec 32 := Scalar.extui v6
  let c0_i32_3 : BitVec 32 := 0#32
  let v8 : BitVec 1 := Scalar.cmpi .ne v7 c0_i32_3
  v8

def k0_cond4 (i : grid0.Coords) : BitVec 1 :=
  let arg1 : BitVec 32 := BitVec.ofNat 32 (i 1).val
  let c4_i32 : BitVec 32 := 4#32
  let v9 : BitVec 1 := Scalar.cmpi .eq arg1 c4_i32
  let v10 : BitVec 32 := Scalar.extui v9
  let c0_i32_4 : BitVec 32 := 0#32
  let v11 : BitVec 1 := Scalar.cmpi .ne v10 c0_i32_4
  v11

def k0_cond5 (i : grid0.Coords) : BitVec 1 :=
  let arg1 : BitVec 32 := BitVec.ofNat 32 (i 1).val
  let c5_i32 : BitVec 32 := 5#32
  let v12 : BitVec 1 := Scalar.cmpi .sge arg1 c5_i32
  let v13 : BitVec 32 := Scalar.extui v12
  let c0_i32_5 : BitVec 32 := 0#32
  let v14 : BitVec 1 := Scalar.cmpi .ne v13 c0_i32_5
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c2_i32 : BitVec 32 := 2#32
  let v1 : BitVec 32 := Scalar.subi v0 c2_i32
  let c0_i32 : BitVec 32 := 0#32
  let c3_i32_0 : BitVec 32 := 3#32
  let v2 : BitVec 32 := Scalar.maxsi c0_i32 v1
  let v3 : BitVec 32 := Scalar.minsi c3_i32_0 v2
  let c0_i32_1 : BitVec 32 := 0#32
  let c0_i32_2 : BitVec 32 := 0#32
  ![v3.toNat, c0_i32_1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.minsi arg1 c2_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.minsi arg1 c2_i32
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_8 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c2_i32 : BitVec 32 := 2#32
  let v1 : BitVec 32 := Scalar.subi v0 c2_i32
  let c0_i32 : BitVec 32 := 0#32
  let c3_i32_0 : BitVec 32 := 3#32
  let v2 : BitVec 32 := Scalar.maxsi c0_i32 v1
  let v3 : BitVec 32 := Scalar.minsi c3_i32_0 v2
  let c0_i32_1 : BitVec 32 := 0#32
  ![arg0.toNat, v3.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S1x16384x2048 : Shape := ⟨3, ![1, 16384, 2048]⟩
abbrev S2048 : Shape := ⟨1, ![2048]⟩
abbrev S2048x6432 : Shape := ⟨2, ![2048, 6432]⟩
abbrev S_ : Shape := ⟨0, ![]⟩
abbrev S1x16384 : Shape := ⟨2, ![1, 16384]⟩
abbrev S1x16384x1 : Shape := ⟨3, ![1, 16384, 1]⟩
abbrev S1x1x2048 : Shape := ⟨3, ![1, 1, 2048]⟩
abbrev S1x16384x6432 : Shape := ⟨3, ![1, 16384, 6432]⟩
abbrev S1x16384x1024 : Shape := ⟨3, ![1, 16384, 1024]⟩
abbrev S1x16384x256 : Shape := ⟨3, ![1, 16384, 256]⟩
abbrev S1x16384x512 : Shape := ⟨3, ![1, 16384, 512]⟩
abbrev S1x16384x32 : Shape := ⟨3, ![1, 16384, 32]⟩
abbrev S1x16384x1536 : Shape := ⟨3, ![1, 16384, 1536]⟩
abbrev S1x16384x16 : Shape := ⟨3, ![1, 16384, 16]⟩
abbrev S1x16384x192 : Shape := ⟨3, ![1, 16384, 192]⟩
abbrev S1x16384x4096 : Shape := ⟨3, ![1, 16384, 4096]⟩
abbrev S16384x1536 : Shape := ⟨2, ![16384, 1536]⟩
abbrev S16384x1024 : Shape := ⟨2, ![16384, 1024]⟩
abbrev S16384x4096 : Shape := ⟨2, ![16384, 4096]⟩

abbrev nBuf : Space → Nat
  | .hbm => 64
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S2048, .f32⟩
  | .hbm, ⟨2, _⟩ => ⟨S2048x6432, .f32⟩
  | .hbm, ⟨3, _⟩ => ⟨S1x16384x2048, .f32⟩
  | .hbm, ⟨4, _⟩ => ⟨S_, .f32⟩
  | .hbm, ⟨5, _⟩ => ⟨S1x16384, .f32⟩
  | .hbm, ⟨6, _⟩ => ⟨S1x16384x1, .f32⟩
  | .hbm, ⟨7, _⟩ => ⟨S_, .f32⟩
  | .hbm, ⟨8, _⟩ => ⟨S1x16384x1, .f32⟩
  | .hbm, ⟨9, _⟩ => ⟨S1x16384x1, .f32⟩
  | .hbm, ⟨10, _⟩ => ⟨S_, .f32⟩
  | .hbm, ⟨11, _⟩ => ⟨S1x16384x1, .f32⟩
  | .hbm, ⟨12, _⟩ => ⟨S1x16384x1, .f32⟩
  | .hbm, ⟨13, _⟩ => ⟨S1x16384x1, .f32⟩
  | .hbm, ⟨14, _⟩ => ⟨S1x16384x2048, .f32⟩
  | .hbm, ⟨15, _⟩ => ⟨S1x16384x2048, .f32⟩
  | .hbm, ⟨16, _⟩ => ⟨S1x1x2048, .f32⟩
  | .hbm, ⟨17, _⟩ => ⟨S1x16384x2048, .f32⟩
  | .hbm, ⟨18, _⟩ => ⟨S1x16384x2048, .f32⟩
  | .hbm, ⟨19, _⟩ => ⟨S1x16384x6432, .f32⟩
  | .hbm, ⟨20, _⟩ => ⟨S1x16384x1024, .f32⟩
  | .hbm, ⟨21, _⟩ => ⟨S1x16384x256, .f32⟩
  | .hbm, ⟨22, _⟩ => ⟨S1x16384x256, .f32⟩
  | .hbm, ⟨23, _⟩ => ⟨S1x16384x512, .f32⟩
  | .hbm, ⟨24, _⟩ => ⟨S1x16384x256, .f32⟩
  | .hbm, ⟨25, _⟩ => ⟨S1x16384x32, .f32⟩
  | .hbm, ⟨26, _⟩ => ⟨S1x16384x2048, .f32⟩
  | .hbm, ⟨27, _⟩ => ⟨S1x16384x2048, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S1x16384x1024, .f32⟩
  | .hbm, ⟨33, _⟩ => ⟨S1x16384x1024, .f32⟩
  | .hbm, ⟨34, _⟩ => ⟨S1x16384x1536, .f32⟩
  | .hbm, ⟨35, _⟩ => ⟨S1x16384x16, .f32⟩
  | .hbm, ⟨36, _⟩ => ⟨S1x16384x16, .f32⟩
  | .hbm, ⟨37, _⟩ => ⟨S1x16384x16, .f32⟩
  | .hbm, ⟨38, _⟩ => ⟨S1x16384x32, .f32⟩
  | .hbm, ⟨39, _⟩ => ⟨S_, .f32⟩
  | .hbm, ⟨40, _⟩ => ⟨S1x16384x192, .f32⟩
  | .hbm, ⟨41, _⟩ => ⟨S1x16384x1024, .f32⟩
  | .hbm, ⟨42, _⟩ => ⟨S1x16384x2048, .f32⟩
  | .hbm, ⟨43, _⟩ => ⟨S1x16384x2048, .f32⟩
  | .hbm, ⟨44, _⟩ => ⟨S_, .f32⟩
  | .hbm, ⟨45, _⟩ => ⟨S1x16384x2048, .f32⟩
  | .hbm, ⟨46, _⟩ => ⟨S1x16384x2048, .f32⟩
  | .hbm, ⟨47, _⟩ => ⟨S_, .f32⟩
  | .hbm, ⟨48, _⟩ => ⟨S1x16384x2048, .f32⟩
  | .hbm, ⟨49, _⟩ => ⟨S1x16384x2048, .f32⟩
  | .hbm, ⟨50, _⟩ => ⟨S1x16384x2048, .f32⟩
  | .hbm, ⟨51, _⟩ => ⟨S1x16384x2048, .f32⟩
  | .hbm, ⟨52, _⟩ => ⟨S_, .f32⟩
  | .hbm, ⟨53, _⟩ => ⟨S1x16384x2048, .f32⟩
  | .hbm, ⟨54, _⟩ => ⟨S1x16384x2048, .f32⟩
  | .hbm, ⟨55, _⟩ => ⟨S_, .f32⟩
  | .hbm, ⟨56, _⟩ => ⟨S1x16384x2048, .f32⟩
  | .hbm, ⟨57, _⟩ => ⟨S1x16384x2048, .f32⟩
  | .hbm, ⟨58, _⟩ => ⟨S1x16384x4096, .f32⟩
  | .hbm, ⟨59, _⟩ => ⟨S16384x1536, .f32⟩
  | .hbm, ⟨60, _⟩ => ⟨S16384x1536, .bf16⟩
  | .hbm, ⟨61, _⟩ => ⟨S16384x1024, .f32⟩
  | .hbm, ⟨62, _⟩ => ⟨S16384x4096, .f32⟩
  | .hbm, ⟨63, _⟩ => ⟨S16384x4096, .bf16⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_cst_6 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_7 : Ref sig .tc := ⟨.hbm, 52, rfl⟩
abbrev main_v41 : Ref sig .tc := ⟨.hbm, 53, rfl⟩
abbrev main_v42 : Ref sig .tc := ⟨.hbm, 54, rfl⟩
abbrev main_cst_8 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩

abbrev nD : Nat := 1
abbrev τ : Topo := Topo.v7x

variable {F : FTy → Type} [FloatOps F]
-- ==== Proof.FfnStep.lean ====
module

public import proofs.«01_k».proof.Proof.Gen.Kernel2Ideal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel2Ideal.Ffn

open Idealize.ShloMosaic Idealize.ShloMosaic.Tactic Idealize.SL.Sem Cert.Kernel2Ideal Cert.Kernel2Ideal.Gen

variable (c : Dev nD) (t : Fin cfg0.N)

/-- What a grid point adds to the output block: the squared rectified product of its rows with a tile of the first weight, times a tile of the second. -/
def step (acc : Vec Ideal S512x2048 .f32) (x0 : Vec Ideal S512x2048 .bf16) (x2 : Vec Ideal S2048x1024 .bf16) (x3 : Vec Ideal S1024x2048 .bf16) :
    FVec Ideal S512x2048 .f32 := fun j =>
  (acc j : EReal) + ∑ k : Fin 1024, (k0_pay5 x0 x2 (ix2 (j 0) k) : EReal) * (x3 (ix2 k (j 1)) : EReal)

theorem text1 (u : FVec Ideal S512x1024 .bf16) (v : Vec Ideal S512x512 .f32) (w : Vec Ideal S1024x512 .bf16) : k0_pay1 u (k0_pay8 v) w = k0_pay2 u v w := rfl
theorem text7 (x0 : Vec Ideal S512x2048 .bf16) (x2 : Vec Ideal S2048x1024 .bf16) (v : Vec Ideal S512x512 .f32) (w : Vec Ideal S1024x512 .bf16) :
    k0_pay7 x0 x2 v w = k0_pay2 (k0_pay5 x0 x2) v w := rfl
theorem text6 (x0 : Vec Ideal S512x2048 .bf16) (x2 : Vec Ideal S2048x1024 .bf16) (v : Vec Ideal S512x512 .f32) (w : Vec Ideal S1024x512 .bf16) :
    k0_pay6 x0 x2 v w = k0_pay2 (k0_pay5 x0 x2) v w := rfl

/-- One column piece of the output: what it held plus the product. -/
theorem pay2_at (u : FVec Ideal S512x1024 .bf16) (v : Vec Ideal S512x512 .f32) (w : Vec Ideal S1024x512 .bf16) (j : S512x512.Idx) :
    k0_pay2 u v w j = (v j : EReal) + ∑ k : Fin 1024, (u (ix2 (j 0) k) : EReal) * (w (ix2 k (j 1)) : EReal) := by
  pointwise [k0_pay2]

/-- Pieces that cover a buffer hide what was written before them. -/
theorem canon_append {Val : EltTy → Type} [∀ e, Nonempty (Val e)] {s : Shape} {e : EltTy} (L' : List (View.Piece Val s e)) (y : s.Idx) :
    ∀ L : List (View.Piece Val s e), (∃ p ∈ L, y ∈ p.1.set) → View.canon (L ++ L') y = View.canon L y
  | [], h => by obtain ⟨_, hm, _⟩ := h; exact absurd hm List.not_mem_nil
  | p :: L, h => by
    by_cases hy : y ∈ p.1.set
    · obtain ⟨r, w⟩ := p
      obtain ⟨x, rfl⟩ : ∃ x, r.emb x = y := r.exists_idx_of_mem hy
      rw [List.cons_append, View.canon_cons_emb, View.canon_cons_emb]
    · have hL : ∃ p' ∈ L, y ∈ p'.1.set := by
        obtain ⟨p', hm, hy'⟩ := h
        rcases List.mem_cons.mp hm with rfl | hm
        · exact absurd hy' hy
        · exact ⟨p', hm, hy'⟩
      rw [List.cons_append, View.canon_cons_of_not_mem p _ hy, View.canon_cons_of_not_mem p L hy]
      exact canon_append L' y L hL

theorem out_B (h0 : ¬cond0_0 (grid0.coords t)) (h1 : ¬cond0_1 (grid0.coords t)) (x0 : Vec Ideal S512x2048 .bf16) (x1 : Vec Ideal S512x2048 .f32)
    (x2 : Vec Ideal S2048x1024 .bf16) (x3 : Vec Ideal S1024x2048 .bf16) (x4 : Vec Ideal S1x2048 .f32) (xs : Vec Ideal S512x2048 .f32) :
    out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) h0 h1 x0 x1 x2 x3 x4 xs
      = step xs x0 x2 x3 := by
  frame_out
  rw [text1, text7, text6]
  generalize hu : k0_pay5 x0 x2 = u
  funext y
  unfold step
  rw [hu]
  canon_tiles x h
  all_goals (rw [pay2_at])
  all_goals (pointwise)
  all_goals (blk_point [])

theorem out_A (h0 : cond0_0 (grid0.coords t)) (h1 : ¬cond0_1 (grid0.coords t)) (x0 : Vec Ideal S512x2048 .bf16) (x1 : Vec Ideal S512x2048 .f32)
    (x2 : Vec Ideal S2048x1024 .bf16) (x3 : Vec Ideal S1024x2048 .bf16) (x4 : Vec Ideal S1x2048 .f32) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) h0 h1 x0 x1 x2 x3 x4
      = step x1 x0 x2 x3 := by
  frame_out
  simp (disch := decide) only [View.readCov_skip, View.readCov_fill]
  rw [text1, text7, text6]
  rw [show k0_pay4 x1 = x1 from by unfold k0_pay4; exact shapeCast_self _ _]
  generalize hu : k0_pay5 x0 x2 = u
  funext y
  unfold step
  rw [hu]
  refine (canon_append [_] y [_, _, _, _] (View.cover_of_tiledBy _ ![512, 512] (by sl_kernel_rfl) y)).trans ?_
  canon_tiles x h
  all_goals (rw [pay2_at])
  all_goals (pointwise)
  all_goals (blk_point [])

theorem out_C (h0 : ¬cond0_0 (grid0.coords t)) (h1 : cond0_1 (grid0.coords t)) (x0 : Vec Ideal S512x2048 .bf16) (x1 : Vec Ideal S512x2048 .f32)
    (x2 : Vec Ideal S2048x1024 .bf16) (x3 : Vec Ideal S1024x2048 .bf16) (x4 : Vec Ideal S1x2048 .f32) (xs : Vec Ideal S512x2048 .f32) :
    out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) h0 h1 x0 x1 x2 x3 x4 xs
      = k0_pay3 (step xs x0 x2 x3) x4 := by
  frame_out
  refine congrArg (fun z => k0_pay3 z x4) ?_
  rw [View.readCov_eq_canon_ld]
  · rw [View.ld_unit_lit' _ _ (by decide)]
    rw [text1, text7, text6]
    generalize hu : k0_pay5 x0 x2 = u
    funext y
    unfold step
    rw [hu]
    canon_tiles x h
    all_goals (rw [pay2_at])
    all_goals (pointwise)
    all_goals (blk_point [])
  · exact fun y => View.cover_of_tiledBy _ ![512, 512] (by sl_kernel_rfl) y

end Cert.Kernel2Ideal.Ffn

end
-- ==== Proof.FfnRef.lean ====
module

public import proofs.«01_k».proof.Proof.Gen.Reference2Ideal.Run
public import Idealize.ShloMosaic.Lib.Pointwise

@[expose] public section

set_option maxRecDepth 16384

noncomputable section

namespace Cert.Reference2Ideal.Ffn

open Idealize.ShloMosaic Idealize.ShloMosaic.Tactic Idealize.SL.Sem Cert.Reference2Ideal Cert.Reference2Ideal.Gen

/-- An entry of the hidden layer: the rectified product of a row with a column of the first weight, squared. -/
def hid (H : FVec Ideal S1x16384x2048 .f32) (W1 : FVec Ideal S2048x8192 .f32) (r : Fin 16384) (l : Fin 8192) : EReal :=
  max (∑ d : Fin 2048, (H (ix3 0 r d) : EReal) * (W1 (ix2 d l) : EReal)) 0 * max (∑ d : Fin 2048, (H (ix3 0 r d) : EReal) * (W1 (ix2 d l) : EReal)) 0

/-- An entry of the residual stream after the feed-forward part. -/
def res (X H : FVec Ideal S1x16384x2048 .f32) (W1 : FVec Ideal S2048x8192 .f32) (W2 : FVec Ideal S8192x2048 .f32) (r : Fin 16384) (j : Fin 2048) : EReal :=
  (X (ix3 0 r j) : EReal) + ∑ l : Fin 8192, hid H W1 r l * (W2 (ix2 l j) : EReal)

/-- The norm of a row, at an entry of it. -/
def nrm (f : Fin 2048 → EReal) (g : EReal) (j : Fin 2048) : EReal :=
  f j * Ideal.rsqrt (Ideal.div (∑ x : Fin 2048, f x * f x) (Ideal.ofBits FTy.f32 1157627904#32) + Ideal.ofBits FTy.f32 897988541#32) * g

/-- The result of the feed-forward part and the final norm. -/
def out (X H : FVec Ideal S1x16384x2048 .f32) (W1 : FVec Ideal S2048x8192 .f32) (W2 : FVec Ideal S8192x2048 .f32) (G : FVec Ideal S2048 .f32) :
    FVec Ideal S16384x2048 .f32 := fun i => nrm (res X H W1 W2 (i 0)) (G (ix1 (i 1))) (i 1)

abbrev hidden (H : FVec Ideal S1x16384x2048 .f32) (W1 : FVec Ideal S2048x8192 .f32) : FVec Ideal S1x16384x8192 .f32 :=
  mulf (maximumf (Host.dotGeneral dot_S1x16384x2048_S2048x8192_S1x16384x8192_2_0_01_1_n_n none H W1) (broadcastInDim S1x16384x8192 ![] bcast_S_S1x16384x8192 (constant S_ .f32 0x00000000#32))) (maximumf (Host.dotGeneral dot_S1x16384x2048_S2048x8192_S1x16384x8192_2_0_01_1_n_n none H W1) (broadcastInDim S1x16384x8192 ![] bcast_S_S1x16384x8192 (constant S_ .f32 0x00000000#32)))

abbrev stream (X : FVec Ideal S1x16384x2048 .f32) (U : FVec Ideal S1x16384x8192 .f32) (W2 : FVec Ideal S8192x2048 .f32) : FVec Ideal S1x16384x2048 .f32 :=
  addf X (Host.dotGeneral dot_S1x16384x8192_S8192x2048_S1x16384x2048_2_0_01_1_n_n none U W2)

abbrev normed (R : FVec Ideal S1x16384x2048 .f32) (G : FVec Ideal S2048 .f32) : FVec Ideal S16384x2048 .f32 :=
  shapeCast _ (mulf (mulf R (broadcastInDim S1x16384x2048 ![0, 1, 2] bcast_S1x16384x1_S1x16384x2048_0_1_2 (Host.rsqrt (addf (Host.divf (broadcastInDim S1x16384x1 ![0, 1] bcast_S1x16384_S1x16384x1_0_1 (Host.reduceAdd (mulf R R) (constant S_ .f32 0x00000000#32) reducesTo_S1x16384x2048_S1x16384_d2 h_S_)) (broadcastInDim S1x16384x1 ![] bcast_S_S1x16384x1 (constant S_ .f32 0x45000000#32))) (broadcastInDim S1x16384x1 ![] bcast_S_S1x16384x1 (constant S_ .f32 0x358637BD#32)))))) (broadcastInDim S1x16384x2048 ![0, 1, 2] bcast_S1x1x2048_S1x16384x2048_0_1_2 (broadcastInDim S1x1x2048 ![2] bcast_S2048_S1x1x2048_2 G))) shapeCasts_S1x16384x2048_S16384x2048

theorem hidden_at (H : FVec Ideal S1x16384x2048 .f32) (W1 : FVec Ideal S2048x8192 .f32) (r : Fin 16384) (l : Fin 8192) :
    hidden H W1 (ix3 0 r l) = hid H W1 r l := by
  unfold hid
  pointwise

theorem stream_at (X : FVec Ideal S1x16384x2048 .f32) (U : FVec Ideal S1x16384x8192 .f32) (W2 : FVec Ideal S8192x2048 .f32) (r : Fin 16384) (j : Fin 2048) :
    stream X U W2 (ix3 0 r j) = (X (ix3 0 r j) : EReal) + ∑ l : Fin 8192, (U (ix3 0 r l) : EReal) * (W2 (ix2 l j) : EReal) := by
  pointwise

theorem normed_at (R : FVec Ideal S1x16384x2048 .f32) (G : FVec Ideal S2048 .f32) (i : S16384x2048.Idx) :
    normed R G i = nrm (fun j => R (ix3 0 (i 0) j)) (G (ix1 (i 1))) (i 1) := by
  idx_vars i
  unfold nrm
  pointwise

/-- What the reference's operations leave, entry by entry. -/
theorem reference_out (X H : FVec Ideal S1x16384x2048 .f32) (W1 : FVec Ideal S2048x8192 .f32) (W2 : FVec Ideal S8192x2048 .f32) (G : FVec Ideal S2048 .f32) :
    normed (stream X (hidden H W1) W2) G = out X H W1 W2 G := by
  funext i
  rw [normed_at]
  unfold out
  refine congrArg (fun f => nrm f (G (ix1 (i 1))) (i 1)) (funext fun j => ?_)
  refine (stream_at X (hidden H W1) W2 (i 0) j).trans ?_
  unfold res
  exact congrArg (_ + ·) (Finset.sum_congr rfl fun l _ => congrArg (· * _) (hidden_at H W1 (i 0) l))

end Cert.Reference2Ideal.Ffn

end
-- ==== Proof.FfnValue.lean ====
module

public import proofs.«01_k».proof.Proof.FfnStep
public import proofs.«01_k».proof.Proof.FfnRef
public import Idealize.ShloMosaic.Lib.StableHlo.RunRead

@[expose] public section

set_option maxRecDepth 16384

noncomputable section

namespace Cert.Kernel2Ideal.Ffn

open Idealize.ShloMosaic Idealize.ShloMosaic.Tactic Idealize.SL.Sem Cert.Kernel2Ideal Cert.Kernel2Ideal.Gen
open Cert.Reference2Ideal.Ffn (hid res nrm)

variable (m : (ℓ : Loc nD τ sig) → Buf (Elt Ideal) ℓ) (c : Dev nD)

/-- The arguments. -/
abbrev aX : FVec Ideal S1x16384x2048 .f32 := m ((c.tc : Thread nD τ).loc main_arg0)
abbrev aH : FVec Ideal S1x16384x2048 .f32 := m ((c.tc : Thread nD τ).loc main_arg1)
abbrev aU : FVec Ideal S2048x8192 .f32 := m ((c.tc : Thread nD τ).loc main_arg2)
abbrev aW : FVec Ideal S8192x2048 .f32 := m ((c.tc : Thread nD τ).loc main_arg3)
abbrev aG : FVec Ideal S2048 .f32 := m ((c.tc : Thread nD τ).loc main_arg4)

/-- Where each window's block lies at a grid point. -/
theorem idx : ∀ t : Fin cfg0.N, win0_0.index t = ![t.val / 8, 0] ∧ win0_1.index t = ![t.val / 8, 0] ∧ win0_2.index t = ![0, t.val % 8]
    ∧ win0_3.index t = ![t.val % 8, 0] ∧ win0_4.index t = ![0, 0] ∧ win0_5.index t = ![t.val / 8, 0] :=
  (by decide +kernel : ∀ t : Fin grid0.N, _)

/-- The row of the array that row `i` of a point's block is. -/
def row (n : ℕ) (hn : n < cfg0.N) (i : Fin 512) : Fin 16384 := ⟨n / 8 * 512 + i.val, by
  have hN : n < 256 := lt_of_lt_of_eq hn N_0
  omega⟩

/-! ## The operands, as the host leaves them -/

theorem h2_at (r : Fin 16384) (d : Fin 2048) : V m c main_v1 (ix2 r d) = aH m c (ix3 0 r d) := by
  unfold V
  after_reads_simp
  pointwise
theorem x1_at (r : Fin 16384) (d : Fin 2048) : V m c main_v2 (ix2 r d) = aX m c (ix3 0 r d) := by
  unfold V
  after_reads_simp
  pointwise
theorem w1_at (r : Fin 2048) (d : Fin 8192) : V m c main_v3 (ix2 r d) = aU m c (ix2 r d) := by
  unfold V
  after_reads_simp
  pointwise
theorem w2_at (r : Fin 8192) (d : Fin 2048) : V m c main_v4 (ix2 r d) = aW m c (ix2 r d) := by
  unfold V
  after_reads_simp
  pointwise
theorem gf_at (d : Fin 2048) : V m c main_v5 (ix2 0 d) = aG m c (ix1 d) := by
  unfold V
  after_reads_simp
  pointwise

/-! ## The blocks -/

theorem blk_h2 (t : Fin cfg0.N) (i : Fin 512) (d : Fin 2048) :
    iblk m c 0 t (ix2 i d) = aH m c (ix3 0 (row t.val t.isLt i) d) := by
  refine Eq.trans ?_ (h2_at m c _ d)
  unfold row
  blk_ext [iblk, idx t]
theorem blk_x1 (t : Fin cfg0.N) (i : Fin 512) (d : Fin 2048) :
    iblk m c 1 t (ix2 i d) = aX m c (ix3 0 (row t.val t.isLt i) d) := by
  refine Eq.trans ?_ (x1_at m c _ d)
  unfold row
  blk_ext [iblk, idx t]
theorem blk_w1 (t : Fin cfg0.N) (d : Fin 2048) (k : Fin 1024) :
    iblk m c 2 t (ix2 d k) = aU m c (ix2 d (⟨t.val % 8 * 1024 + k.val, by omega⟩ : Fin 8192)) := by
  refine Eq.trans ?_ (w1_at m c d _)
  blk_ext [iblk, idx t]
theorem blk_w2 (t : Fin cfg0.N) (k : Fin 1024) (d : Fin 2048) :
    iblk m c 3 t (ix2 k d) = aW m c (ix2 (⟨t.val % 8 * 1024 + k.val, by omega⟩ : Fin 8192) d) := by
  refine Eq.trans ?_ (w2_at m c _ d)
  blk_ext [iblk, idx t]
theorem blk_gf (t : Fin cfg0.N) (d : Fin 2048) : iblk m c 4 t (ix2 0 d) = aG m c (ix1 d) := by
  refine Eq.trans ?_ (gf_at m c d)
  blk_ext [iblk, idx t]

/-! ## The accumulation -/

theorem pay5_at (x0 : Vec Ideal S512x2048 .bf16) (x2 : Vec Ideal S2048x1024 .bf16) (i : Fin 512) (k : Fin 1024) :
    k0_pay5 x0 x2 (ix2 i k) = max (∑ d : Fin 2048, (x0 (ix2 i d) : EReal) * (x2 (ix2 d k) : EReal)) 0 * max (∑ d : Fin 2048, (x0 (ix2 i d) : EReal) * (x2 (ix2 d k) : EReal)) 0 := by
  pointwise [k0_pay5]

/-- What tile `f` of the hidden layer adds to an entry. -/
def tile (H : FVec Ideal S1x16384x2048 .f32) (W1 : FVec Ideal S2048x8192 .f32) (W2 : FVec Ideal S8192x2048 .f32) (r : Fin 16384) (j : Fin 2048) (f : ℕ) : EReal :=
  ∑ k : Fin 1024, if h : f * 1024 + k.val < 8192 then hid H W1 r ⟨f * 1024 + k.val, h⟩ * (W2 (ix2 ⟨f * 1024 + k.val, h⟩ j) : EReal) else 0

/-- The eight tiles together are the whole sum. -/
theorem tiles (H : FVec Ideal S1x16384x2048 .f32) (W1 : FVec Ideal S2048x8192 .f32) (W2 : FVec Ideal S8192x2048 .f32) (r : Fin 16384) (j : Fin 2048) :
    ∑ f ∈ Finset.range 8, tile H W1 W2 r j f = ∑ l : Fin 8192, hid H W1 r l * (W2 (ix2 l j) : EReal) := by
  rw [Finset.sum_range]
  unfold tile
  exact Fin.sum_mul_add_congr fun s k hl => dif_pos hl

/-- A tile's products at a point are the hidden layer's. -/
theorem hid_at (t : Fin cfg0.N) (i : Fin 512) (k : Fin 1024) :
    k0_pay5 (iblk m c 0 t) (iblk m c 2 t) (ix2 i k)
      = hid (aH m c) (aU m c) (row t.val t.isLt i) ⟨t.val % 8 * 1024 + k.val, by omega⟩ := by
  refine (pay5_at _ _ i k).trans ?_
  unfold hid
  refine congrArg (fun z : EReal => max z 0 * max z 0) (Finset.sum_congr rfl fun d _ => ?_)
  exact congrArg₂ (fun x y : EReal => x * y) (blk_h2 m c t i d) (blk_w1 m c t d k)

/-- A point adds its tile. -/
theorem step_at (t : Fin cfg0.N) (acc : Vec Ideal S512x2048 .f32) (i : Fin 512) (j : Fin 2048) :
    step acc (iblk m c 0 t) (iblk m c 2 t) (iblk m c 3 t) (ix2 i j)
      = (acc (ix2 i j) : EReal) + tile (aH m c) (aU m c) (aW m c) (row t.val t.isLt i) j (t.val % 8) := by
  unfold step tile
  refine congrArg (_ + ·) (Finset.sum_congr rfl fun k _ => ?_)
  have h : t.val % 8 * 1024 + k.val < 8192 := by omega
  rw [dif_pos h]
  exact congrArg₂ (fun x y : EReal => x * y) (hid_at m c t i k) (blk_w2 m c t k j)

/-- Before the last tile the block holds the residual and the tiles so far. -/
theorem partial_at (i : Fin 512) (j : Fin 2048) : ∀ (n : ℕ) (hn : n < cfg0.N), n % 8 < 7 →
    outsAt0 m c n hn (ix2 i j) = (aX m c (ix3 0 (row n hn i) j) : EReal)
      + ∑ f ∈ Finset.range (n % 8 + 1), tile (aH m c) (aU m c) (aW m c) (row n hn i) j f := by
  intro n
  induction n with
  | zero =>
    intro hn h7
    refine (congrFun ((outsAt0_A m c ⟨0, hn⟩ rfl (by dsimp only; omega)).trans (out_A c ⟨0, hn⟩ _ _ _ _ _ _ _)) (ix2 i j)).trans ?_
    refine (step_at m c ⟨0, hn⟩ _ i j).trans ?_
    rw [show (0 % 8 + 1) = 1 from rfl, Finset.sum_range_one]
    exact congrArg (· + _) (blk_x1 m c ⟨0, hn⟩ i j)
  | succ n ih =>
    intro hn h7
    by_cases h0 : (n + 1) % 8 = 0
    · refine (congrFun ((outsAt0_A m c ⟨n + 1, hn⟩ h0 (by dsimp only; omega)).trans (out_A c ⟨n + 1, hn⟩ _ _ _ _ _ _ _)) (ix2 i j)).trans ?_
      refine (step_at m c ⟨n + 1, hn⟩ _ i j).trans ?_
      dsimp only
      rw [h0, Finset.sum_range_one]
      exact congrArg (· + _) (blk_x1 m c ⟨n + 1, hn⟩ i j)
    · refine (congrFun ((outsAt0_B m c ⟨n + 1, hn⟩ h0 (by dsimp only; omega)).trans (out_B c ⟨n + 1, hn⟩ _ _ _ _ _ _ _ _)) (ix2 i j)).trans ?_
      refine (step_at m c ⟨n + 1, hn⟩ _ i j).trans ?_
      have hn' : n < cfg0.N := Nat.lt_of_succ_lt hn
      have er : row n hn' i = row (n + 1) hn i := Fin.ext (by unfold row; dsimp only; omega)
      have em : (n + 1) % 8 = n % 8 + 1 := by omega
      have := ih hn' (by omega)
      rw [er] at this
      dsimp only
      rw [em, Finset.sum_range_succ, ← add_assoc]
      exact congrArg (· + _) this

theorem pay3_at (x0 : Vec Ideal S512x2048 .f32) (x2 : Vec Ideal S1x2048 .f32) (i : Fin 512) (j : Fin 2048) :
    k0_pay3 x0 x2 (ix2 i j) = nrm (fun l => x0 (ix2 i l)) (x2 (ix2 0 j)) j := by
  unfold nrm
  pointwise [k0_pay3]

/-- At the last tile the block holds the result's rows. -/
theorem last_at (t : Fin cfg0.N) (h7 : t.val % 8 = 7) (i : Fin 512) (j : Fin 2048) :
    outsAt0 m c t.val t.isLt (ix2 i j) = nrm (res (aX m c) (aH m c) (aU m c) (aW m c) (row t.val t.isLt i))
      (aG m c (ix1 j)) j := by
  have h0 : ¬t.val % 8 = 0 := by omega
  refine (congrFun ((outsAt0_C m c t h0 h7).trans (out_C c t _ _ _ _ _ _ _ _)) (ix2 i j)).trans ?_
  refine (pay3_at _ _ i j).trans ?_
  refine congrArg₂ (fun f g => nrm f g j) (funext fun l => ?_) (blk_gf m c t j)
  refine (step_at m c t _ i l).trans ?_
  have hn' : t.val - 1 < cfg0.N := Nat.lt_of_le_of_lt (Nat.sub_le _ _) t.isLt
  have er : row (t.val - 1) hn' i = row t.val t.isLt i := Fin.ext (by unfold row; dsimp only; omega)
  have em : (t.val - 1) % 8 + 1 = 7 := by omega
  have := partial_at m c i l (t.val - 1) hn' (by omega)
  rw [er, em] at this
  unfold res
  rw [h7, ← tiles, Finset.sum_range_succ, ← add_assoc]
  exact congrArg (· + _) this

theorem last_row (t : Fin cfg0.N) (h7 : t.val % 8 = 7) (y : S512x2048.Idx) :
    outsAt0 m c t.val t.isLt y = nrm (res (aX m c) (aH m c) (aU m c) (aW m c) (row t.val t.isLt (y 0))) (aG m c (ix1 (y 1))) (y 1) := by
  idx_vars y
  exact last_at m c t h7 _ _

/-- The array after the last point is the reference's result. -/
theorem final : (dats m 0 c).arrAt 5 cfg0.N
    = Cert.Reference2Ideal.Ffn.out (aX m c) (aH m c) (aU m c) (aW m c) (aG m c) := by
  refine (dats m 0 c).arrAt_eq_of_covers 5 _ (by decide +kernel) fun t hf y => ?_
  have h7 : t.val % 8 = 7 := (flush0_5 t).mp hf
  blk_simp
  rw [after0_5]
  refine (last_row m c t h7 y).trans ?_
  have e : (win0_5.blk t).view.emb y = ix2 (row t.val t.isLt (y 0)) (y 1) := by
    unfold row
    blk_ext [idx t]
  rw [e]
  rfl

end Cert.Kernel2Ideal.Ffn

end
-- ==== Proof.MergeRef.lean ====
module

public import proofs.«01_k».proof.Proof.FfnRef
public import proofs.«01_k».proof.Proof.Gen.Reference3Ideal.Run
public import Idealize.ShloMosaic.Lib.Pointwise

@[expose] public section

set_option maxRecDepth 16384

noncomputable section

namespace Cert.Reference3Ideal.Merge

open Idealize.ShloMosaic Idealize.ShloMosaic.Tactic Idealize.SL.Sem Cert.Reference3Ideal Cert.Reference3Ideal.Gen
open Cert.Reference2Ideal.Ffn (nrm)

/-- An entry of the gated sum of the two mixers' projected outputs. -/
def mix (OA OB : FVec Ideal S1x16384x1024 .f32) (SA SB : FVec Ideal S1x16384x2048 .f32) (WA WB : FVec Ideal S1024x2048 .f32) (r : Fin 16384) (d : Fin 2048) : EReal :=
  (SA (ix3 0 r d) : EReal) * (∑ e : Fin 1024, (OA (ix3 0 r e) : EReal) * (WA (ix2 e d) : EReal))
    + (SB (ix3 0 r d) : EReal) * (∑ e : Fin 1024, (OB (ix3 0 r e) : EReal) * (WB (ix2 e d) : EReal))

/-- An entry of the residual stream after the merge. -/
def res (X : FVec Ideal S1x16384x2048 .f32) (OA OB : FVec Ideal S1x16384x1024 .f32) (SA SB : FVec Ideal S1x16384x2048 .f32) (WA WB : FVec Ideal S1024x2048 .f32)
    (WO : FVec Ideal S2048x2048 .f32) (r : Fin 16384) (j : Fin 2048) : EReal :=
  (X (ix3 0 r j) : EReal) + ∑ d : Fin 2048, mix OA OB SA SB WA WB r d * (WO (ix2 d j) : EReal)

abbrev mixed (OA OB : FVec Ideal S1x16384x1024 .f32) (SA SB : FVec Ideal S1x16384x2048 .f32) (WA WB : FVec Ideal S1024x2048 .f32) : FVec Ideal S1x16384x2048 .f32 :=
  addf (mulf SA (Host.dotGeneral dot_S1x16384x1024_S1024x2048_S1x16384x2048_2_0_01_1_n_n none OA WA)) (mulf SB (Host.dotGeneral dot_S1x16384x1024_S1024x2048_S1x16384x2048_2_0_01_1_n_n none OB WB))

abbrev stream (X M : FVec Ideal S1x16384x2048 .f32) (WO : FVec Ideal S2048x2048 .f32) : FVec Ideal S1x16384x2048 .f32 :=
  addf X (Host.dotGeneral dot_S1x16384x2048_S2048x2048_S1x16384x2048_2_0_01_1_n_n none M WO)

abbrev normed (R : FVec Ideal S1x16384x2048 .f32) (G : FVec Ideal S2048 .f32) : FVec Ideal S16384x2048 .bf16 :=
  truncf .bf16 (shapeCast _ (mulf (mulf R (broadcastInDim S1x16384x2048 ![0, 1, 2] bcast_S1x16384x1_S1x16384x2048_0_1_2 (Host.rsqrt (addf (Host.divf (broadcastInDim S1x16384x1 ![0, 1] bcast_S1x16384_S1x16384x1_0_1 (Host.reduceAdd (mulf R R) (constant S_ .f32 0x00000000#32) reducesTo_S1x16384x2048_S1x16384_d2 h_S_)) (broadcastInDim S1x16384x1 ![] bcast_S_S1x16384x1 (constant S_ .f32 0x45000000#32))) (broadcastInDim S1x16384x1 ![] bcast_S_S1x16384x1 (constant S_ .f32 0x358637BD#32)))))) (broadcastInDim S1x16384x2048 ![0, 1, 2] bcast_S1x1x2048_S1x16384x2048_0_1_2 (broadcastInDim S1x1x2048 ![2] bcast_S2048_S1x1x2048_2 G))) shapeCasts_S1x16384x2048_S16384x2048) bitsLt_bf16_f32

theorem mixed_at (OA OB : FVec Ideal S1x16384x1024 .f32) (SA SB : FVec Ideal S1x16384x2048 .f32) (WA WB : FVec Ideal S1024x2048 .f32) (r : Fin 16384) (d : Fin 2048) :
    mixed OA OB SA SB WA WB (ix3 0 r d) = mix OA OB SA SB WA WB r d := by
  unfold mix
  pointwise

theorem stream_at (X M : FVec Ideal S1x16384x2048 .f32) (WO : FVec Ideal S2048x2048 .f32) (r : Fin 16384) (j : Fin 2048) :
    stream X M WO (ix3 0 r j) = (X (ix3 0 r j) : EReal) + ∑ d : Fin 2048, (M (ix3 0 r d) : EReal) * (WO (ix2 d j) : EReal) := by
  pointwise

theorem normed_at (R : FVec Ideal S1x16384x2048 .f32) (G : FVec Ideal S2048 .f32) (i : S16384x2048.Idx) :
    normed R G i = nrm (fun j => R (ix3 0 (i 0) j)) (G (ix1 (i 1))) (i 1) := by
  idx_vars i
  unfold nrm
  pointwise

variable (X : FVec Ideal S1x16384x2048 .f32) (OA OB : FVec Ideal S1x16384x1024 .f32) (SA SB : FVec Ideal S1x16384x2048 .f32) (WA WB : FVec Ideal S1024x2048 .f32)
  (WO : FVec Ideal S2048x2048 .f32) (G : FVec Ideal S2048 .f32)

/-- The residual stream's array. -/
def x1 : FVec Ideal S16384x2048 .f32 := fun i => res X OA OB SA SB WA WB WO (i 0) (i 1)

/-- Its norm's array. -/
def h2 : FVec Ideal S16384x2048 .bf16 := fun i => nrm (res X OA OB SA SB WA WB WO (i 0)) (G (ix1 (i 1))) (i 1)

theorem res_at (r : Fin 16384) (j : Fin 2048) : stream X (mixed OA OB SA SB WA WB) WO (ix3 0 r j) = res X OA OB SA SB WA WB WO r j := by
  refine (stream_at X _ WO r j).trans ?_
  unfold res
  exact congrArg (_ + ·) (Finset.sum_congr rfl fun l _ => congrArg (· * _) (mixed_at OA OB SA SB WA WB r l))

theorem cast_at (R : FVec Ideal S1x16384x2048 .f32) (i : S16384x2048.Idx) :
    shapeCast S16384x2048 R shapeCasts_S1x16384x2048_S16384x2048 i = R (ix3 0 (i 0) (i 1)) := by
  idx_vars i
  pointwise

/-- The reference's first result, entry by entry. -/
theorem reference_x1 : shapeCast S16384x2048 (stream X (mixed OA OB SA SB WA WB) WO) shapeCasts_S1x16384x2048_S16384x2048 = x1 X OA OB SA SB WA WB WO := by
  funext i
  rw [cast_at]
  exact res_at X OA OB SA SB WA WB WO (i 0) (i 1)

/-- The reference's second result, entry by entry. -/
theorem reference_h2 : normed (stream X (mixed OA OB SA SB WA WB) WO) G = h2 X OA OB SA SB WA WB WO G := by
  funext i
  rw [normed_at]
  unfold h2
  exact congrArg (fun f => nrm f (G (ix1 (i 1))) (i 1)) (funext fun j => res_at X OA OB SA SB WA WB WO (i 0) j)

end Cert.Reference3Ideal.Merge

end
-- ==== Proof.MergeValue.lean ====
module

public import proofs.«01_k».proof.Proof.Gen.Kernel3Ideal.Value
public import proofs.«01_k».proof.Proof.MergeRef
public import Idealize.ShloMosaic.Lib.Pipeline.ValueKit
public import Idealize.ShloMosaic.Lib.StableHlo.RunRead

@[expose] public section

set_option maxRecDepth 16384

noncomputable section

namespace Cert.Kernel3Ideal.Merge

open Idealize.ShloMosaic Idealize.ShloMosaic.Tactic Idealize.SL.Sem Cert.Kernel3Ideal Cert.Kernel3Ideal.Gen
open Cert.Reference2Ideal.Ffn (nrm)
open Cert.Reference3Ideal.Merge (mix res)

variable (m : (ℓ : Loc nD τ sig) → Buf (Elt Ideal) ℓ) (c : Dev nD)

/-- The arguments. -/
abbrev aX : FVec Ideal S1x16384x2048 .f32 := m ((c.tc : Thread nD τ).loc main_arg0)
abbrev aOA : FVec Ideal S1x16384x1024 .f32 := m ((c.tc : Thread nD τ).loc main_arg1)
abbrev aOB : FVec Ideal S1x16384x1024 .f32 := m ((c.tc : Thread nD τ).loc main_arg2)
abbrev aSA : FVec Ideal S1x16384x2048 .f32 := m ((c.tc : Thread nD τ).loc main_arg3)
abbrev aSB : FVec Ideal S1x16384x2048 .f32 := m ((c.tc : Thread nD τ).loc main_arg4)
abbrev aWA : FVec Ideal S1024x2048 .f32 := m ((c.tc : Thread nD τ).loc main_arg5)
abbrev aWB : FVec Ideal S1024x2048 .f32 := m ((c.tc : Thread nD τ).loc main_arg6)
abbrev aWO : FVec Ideal S2048x2048 .f32 := m ((c.tc : Thread nD τ).loc main_arg7)
abbrev aG : FVec Ideal S2048 .f32 := m ((c.tc : Thread nD τ).loc main_arg8)

/-- Where each window's block lies at a grid point. -/
theorem idx : ∀ t : Fin cfg0.N, win0_0.index t = ![t.val, 0] ∧ win0_1.index t = ![0, t.val] ∧ win0_2.index t = ![0, t.val]
    ∧ win0_3.index t = ![t.val, 0] ∧ win0_4.index t = ![t.val, 1] ∧ win0_5.index t = ![0, 0] ∧ win0_6.index t = ![0, 0]
    ∧ win0_7.index t = ![0, 0] ∧ win0_8.index t = ![0, 0] ∧ win0_9.index t = ![t.val, 0] ∧ win0_10.index t = ![t.val, 0] :=
  (by decide +kernel : ∀ t : Fin grid0.N, _)

/-- The row of the array that row `i` of a point's block is. -/
def row (t : Fin cfg0.N) (i : Fin 512) : Fin 16384 := ⟨t.val * 512 + i.val, by
  have hN : t.val < 32 := lt_of_lt_of_eq t.isLt N_0
  omega⟩

/-! ## The operands, as the host leaves them -/

theorem x_at (r : Fin 16384) (d : Fin 2048) : V m c main_v4 (ix2 r d) = aX m c (ix3 0 r d) := by
  unfold V
  after_reads_simp
  pointwise
theorem oa_at (e : Fin 1024) (r : Fin 16384) : V m c main_v7 (ix2 e r) = aOA m c (ix3 0 r e) := by
  unfold V
  after_reads_simp
  pointwise
theorem ob_at (e : Fin 1024) (r : Fin 16384) : V m c main_v10 (ix2 e r) = aOB m c (ix3 0 r e) := by
  unfold V
  after_reads_simp
  pointwise
theorem ga_at (r : Fin 16384) (d : Fin 2048) : V m c main_v3 (ix2 r (⟨d.val, by omega⟩ : Fin 4096)) = aSA m c (ix3 0 r d) := by
  unfold V
  after_reads_simp
  pointwise
  after_reads_simp
  pointwise
theorem gb_at (r : Fin 16384) (d : Fin 2048) : V m c main_v3 (ix2 r (⟨2048 + d.val, by omega⟩ : Fin 4096)) = aSB m c (ix3 0 r d) := by
  unfold V
  after_reads_simp
  pointwise
  after_reads_simp
  pointwise
theorem wa_at (e : Fin 1024) (d : Fin 2048) : V m c main_v11 (ix2 e d) = aWA m c (ix2 e d) := by
  unfold V
  after_reads_simp
  pointwise
theorem wb_at (e : Fin 1024) (d : Fin 2048) : V m c main_v12 (ix2 e d) = aWB m c (ix2 e d) := by
  unfold V
  after_reads_simp
  pointwise
theorem wo_at (e : Fin 2048) (d : Fin 2048) : V m c main_v13 (ix2 e d) = aWO m c (ix2 e d) := by
  unfold V
  after_reads_simp
  pointwise
theorem g_at (d : Fin 2048) : V m c main_v14 (ix2 0 d) = aG m c (ix1 d) := by
  unfold V
  after_reads_simp
  pointwise

/-! ## The blocks -/

variable (t : Fin cfg0.N)

theorem blk_x (i : Fin 512) (d : Fin 2048) : iblk m c 0 t (ix2 i d) = aX m c (ix3 0 (row t i) d) := by
  refine Eq.trans ?_ (x_at m c _ d)
  unfold row
  blk_ext [iblk, idx t]
theorem blk_oa (e : Fin 1024) (i : Fin 512) : iblk m c 1 t (ix2 e i) = aOA m c (ix3 0 (row t i) e) := by
  refine Eq.trans ?_ (oa_at m c e _)
  unfold row
  blk_ext [iblk, idx t]
theorem blk_ob (e : Fin 1024) (i : Fin 512) : iblk m c 2 t (ix2 e i) = aOB m c (ix3 0 (row t i) e) := by
  refine Eq.trans ?_ (ob_at m c e _)
  unfold row
  blk_ext [iblk, idx t]
theorem blk_ga (i : Fin 512) (d : Fin 2048) : iblk m c 3 t (ix2 i d) = aSA m c (ix3 0 (row t i) d) := by
  refine Eq.trans ?_ (ga_at m c _ d)
  unfold row
  blk_ext [iblk, idx t]
theorem blk_gb (i : Fin 512) (d : Fin 2048) : iblk m c 4 t (ix2 i d) = aSB m c (ix3 0 (row t i) d) := by
  refine Eq.trans ?_ (gb_at m c _ d)
  unfold row
  blk_ext [iblk, idx t]
theorem blk_wa (e : Fin 1024) (d : Fin 2048) : iblk m c 5 t (ix2 e d) = aWA m c (ix2 e d) := by
  refine Eq.trans ?_ (wa_at m c e d)
  blk_ext [iblk, idx t]
theorem blk_wb (e : Fin 1024) (d : Fin 2048) : iblk m c 6 t (ix2 e d) = aWB m c (ix2 e d) := by
  refine Eq.trans ?_ (wb_at m c e d)
  blk_ext [iblk, idx t]
theorem blk_wo (e : Fin 2048) (d : Fin 2048) : iblk m c 7 t (ix2 e d) = aWO m c (ix2 e d) := by
  refine Eq.trans ?_ (wo_at m c e d)
  blk_ext [iblk, idx t]
theorem blk_g (d : Fin 2048) : iblk m c 8 t (ix2 0 d) = aG m c (ix1 d) := by
  refine Eq.trans ?_ (g_at m c d)
  blk_ext [iblk, idx t]

/-! ## The block's entries -/

theorem pay2_at (oa : Vec Ideal S1024x512 .bf16) (wa : Vec Ideal S1024x2048 .bf16) (ob : Vec Ideal S1024x512 .bf16) (wb : Vec Ideal S1024x2048 .bf16)
    (ga gb : Vec Ideal S512x2048 .bf16) (x : Vec Ideal S512x2048 .f32) (wo : Vec Ideal S2048x2048 .bf16) (i : Fin 512) (j : Fin 2048) :
    k0_pay2 oa wa ob wb ga gb x wo (ix2 i j) = (x (ix2 i j) : EReal)
      + ∑ d : Fin 2048, ((ga (ix2 i d) : EReal) * (∑ e : Fin 1024, (oa (ix2 e i) : EReal) * (wa (ix2 e d) : EReal))
          + (gb (ix2 i d) : EReal) * (∑ e : Fin 1024, (ob (ix2 e i) : EReal) * (wb (ix2 e d) : EReal))) * (wo (ix2 d j) : EReal) := by
  pointwise [k0_pay2]

theorem pay1_at (r : FVec Ideal S512x2048 .f32) (g : Vec Ideal S1x2048 .f32) (i : Fin 512) (j : Fin 2048) (s : FVec Ideal S512x1 .f32)
    (hs : s (ix2 i 0) = ∑ l : Fin 2048, (r (ix2 i l) : EReal) * (r (ix2 i l) : EReal)) :
    k0_pay1 r (k0_pay3 g) s k0_pay5 (ix2 i j) = nrm (fun l => r (ix2 i l)) (g (ix2 0 j)) j := by
  unfold nrm
  pointwise [k0_pay1, k0_pay3, k0_pay5]
  rw [hs]

theorem pay4_at (oa : Vec Ideal S1024x512 .bf16) (wa : Vec Ideal S1024x2048 .bf16) (ob : Vec Ideal S1024x512 .bf16) (wb : Vec Ideal S1024x2048 .bf16)
    (ga gb : Vec Ideal S512x2048 .bf16) (x : Vec Ideal S512x2048 .f32) (wo : Vec Ideal S2048x2048 .bf16) (i : Fin 512) :
    k0_pay4 oa wa ob wb ga gb x wo (ix2 i 0) = ∑ l : Fin 2048, (k0_pay2 oa wa ob wb ga gb x wo (ix2 i l) : EReal) * (k0_pay2 oa wa ob wb ga gb x wo (ix2 i l) : EReal) := by
  unfold k0_pay4
  generalize k0_pay2 oa wa ob wb ga gb x wo = r
  pointwise

/-- A row of the residual stream, in the block. -/
theorem res_at (i : Fin 512) (j : Fin 2048) :
    k0_pay2 (iblk m c 1 t) (iblk m c 5 t) (iblk m c 2 t) (iblk m c 6 t) (iblk m c 3 t) (iblk m c 4 t) (iblk m c 0 t) (iblk m c 7 t) (ix2 i j)
      = res (aX m c) (aOA m c) (aOB m c) (aSA m c) (aSB m c) (aWA m c) (aWB m c) (aWO m c) (row t i) j := by
  refine (pay2_at _ _ _ _ _ _ _ _ i j).trans ?_
  unfold res
  refine congrArg₂ (fun x y : EReal => x + y) (blk_x m c t i j) (Finset.sum_congr rfl fun d _ => congrArg₂ (fun x y : EReal => x * y) ?_ (blk_wo m c t d j))
  unfold mix
  exact congrArg₂ (fun x y : EReal => x + y)
    (congrArg₂ (fun x y : EReal => x * y) (blk_ga m c t i d) (Finset.sum_congr rfl fun e _ => congrArg₂ (fun x y : EReal => x * y) (blk_oa m c t e i) (blk_wa m c t e d)))
    (congrArg₂ (fun x y : EReal => x * y) (blk_gb m c t i d) (Finset.sum_congr rfl fun e _ => congrArg₂ (fun x y : EReal => x * y) (blk_ob m c t e i) (blk_wb m c t e d)))

theorem x1_blk (y : S512x2048.Idx) : (dats m 0 c).after 9 t y
    = res (aX m c) (aOA m c) (aOB m c) (aSA m c) (aSB m c) (aWA m c) (aWB m c) (aWO m c) (row t (y 0)) (y 1) := by
  rw [after0_9]
  frame_out
  idx_vars y
  exact res_at m c t _ _

theorem h2_blk (y : S512x2048.Idx) : (dats m 0 c).after 10 t y
    = nrm (res (aX m c) (aOA m c) (aOB m c) (aSA m c) (aSB m c) (aWA m c) (aWB m c) (aWO m c) (row t (y 0))) (aG m c (ix1 (y 1))) (y 1) := by
  rw [after0_10]
  frame_out
  idx_vars y
  refine (pay1_at _ _ _ _ _ (pay4_at _ _ _ _ _ _ _ _ _)).trans ?_
  exact congrArg₂ (fun f g => nrm f g _) (funext fun l => res_at m c t _ l) (blk_g m c t _)

/-- The first result after the last point is the reference's. -/
theorem final_x1 : (dats m 0 c).arrAt 9 cfg0.N
    = Cert.Reference3Ideal.Merge.x1 (aX m c) (aOA m c) (aOB m c) (aSA m c) (aSB m c) (aWA m c) (aWB m c) (aWO m c) := by
  refine (dats m 0 c).arrAt_eq_of_covers 9 _ (by decide +kernel) fun t hf y => ?_
  blk_simp
  refine (x1_blk m c t y).trans ?_
  have e : (win0_9.blk t).view.emb y = ix2 (row t (y 0)) (y 1) := by
    unfold row
    blk_ext [idx t]
  rw [e]
  rfl

/-- The second result after the last point is the reference's. -/
theorem final_h2 : (dats m 0 c).arrAt 10 cfg0.N
    = Cert.Reference3Ideal.Merge.h2 (aX m c) (aOA m c) (aOB m c) (aSA m c) (aSB m c) (aWA m c) (aWB m c) (aWO m c) (aG m c) := by
  refine (dats m 0 c).arrAt_eq_of_covers 10 _ (by decide +kernel) fun t hf y => ?_
  blk_simp
  refine (h2_blk m c t y).trans ?_
  have e : (win0_10.blk t).view.emb y = ix2 (row t (y 0)) (y 1) := by
    unfold row
    blk_ext [idx t]
  rw [e]
  rfl

end Cert.Kernel3Ideal.Merge

end
-- ==== Proof.ProjRuns.lean ====
module

public import proofs.«01_k».proof.Proof.Gen.Kernel4Ideal.Launch
public import proofs.«01_k».proof.Proof.Gen.Kernel4Ideal.Skeleton
public import proofs.«01_k».proof.Proof.Gen.Kernel4Ideal.Points
public import proofs.«01_k».proof.Proof.Gen.Kernel4Ideal.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pointwise
public import Idealize.ShloMosaic.Lib.Pipeline.ValueKit

/-! The input projection's body, one triple per kind of grid column: the first column normalizes the rows into the
scratch and writes an attention block, the next two write an attention block, then two write a latent block, and the
rest write a gate block. Each triple names only the buffers its column touches. -/

@[expose] public section

set_option maxRecDepth 16384

noncomputable section

namespace Cert.Kernel4Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel4Ideal.Gen

variable {F : FTy → Type} [FloatOps F]

local notation "𝕄" => MT nD τ sig Unit (Elt F) ℕ (UR sig nD τ) ℕ

/-- What a whole-block store leaves is the stored block. -/
theorem read_whole_write {s : Shape} {e : EltTy} (v : View sig .tc .vmem s e) (f : v.ty.Contents (Elt F)) {off : Fin s.rank → ℕ}
    (hr : ∀ a, off a + s.size a ≤ s.size a) (x : Vec F s e) :
    v.read (Elt F) (v.writes (Elt F) f [⟨Rect.unit (s := s) off s.size hr, x⟩]) = x :=
  funext fun y => View.read_writes_cons_hit v f (Rect.unit (s := s) off s.size hr) x [] y y (funext fun a => Fin.ext (by
    have h0 : off a = 0 := by have := hr a; omega
    show off a + 1 * (y a).val = (y a).val
    omega))

/-- A whole-block load reads the buffer's contents. -/
theorem load_whole {s : Shape} {e : EltTy} (v : View sig .tc .vmem s e) (f : v.ty.Contents (Elt F)) {off : Fin s.rank → ℕ}
    (hr : ∀ a, off a + s.size a ≤ s.size a) :
    v.readAt (Elt F) (Rect.unit (s := s) off s.size hr).toLoadRect f = v.read (Elt F) f :=
  (View.readAt_eq_ld v f _).trans (View.ld_unit_lit' hr _ fun a => by have := hr a; omega)

/-- A list built one entry a step holds exactly the entries of the steps taken. -/
theorem pieces_of_rec {α : Type*} {N : ℕ} (f : ℕ → List α) (pc : Fin N → α) (h0 : f 0 = []) (hs : ∀ k : Fin N, f (k.val + 1) = [pc k] ++ f k.val) :
    ∀ n ≤ N, (∀ p ∈ f n, ∃ k, p = pc k) ∧ ∀ k : Fin N, k.val < n → pc k ∈ f n
  | 0, _ => ⟨fun p hp => by rw [h0] at hp; exact absurd hp List.not_mem_nil, fun k hk => absurd hk (Nat.not_lt_zero _)⟩
  | n + 1, hn => by
    obtain ⟨ih1, ih2⟩ := pieces_of_rec f pc h0 hs n (Nat.le_of_succ_le hn)
    have e : f (n + 1) = [pc ⟨n, hn⟩] ++ f n := hs ⟨n, hn⟩
    rw [e]
    refine ⟨fun p hp => ?_, fun k hk => ?_⟩
    · rcases List.mem_append.mp hp with h | h
      · exact ⟨_, List.mem_singleton.mp h⟩
      · exact ih1 p h
    · rcases Nat.lt_succ_iff_lt_or_eq.mp hk with h | h
      · exact List.mem_append_right _ (ih2 k h)
      · refine List.mem_append_left _ (List.mem_singleton.mpr ?_)
        congr 1; exact Fin.ext h

theorem trips_eq : k0_t1_loop.trips = 4 := by decide

/-- Trip `k` works on the slab of rows from `256 k`. -/
theorem off_eq : ∀ k : Fin k0_t1_loop.trips, k0_off1 k = ![256 * k.val, 0] := by decide +kernel

/-- A block of rows, each rescaled to unit root mean square and weighted, computed slab by slab. -/
def rows (x0 : Vec F S1024x2048 .f32) (x1 : Vec F S1x2048 .f32) : Vec F S1024x2048 .bf16 := fun y =>
  k0_pay1 (fun z : S256x2048.Idx => x0 (ix2 (n0 := 1024) (n1 := 2048) ⟨256 * ((y 0).val / 256) + (z 0).val, by
    have : (y 0).val < 1024 := (y 0).isLt; have : (z 0).val < 256 := (z 0).isLt; omega⟩ (z 1))) x1
    (ix2 (n0 := 256) (n1 := 2048) ⟨(y 0).val % 256, Nat.mod_lt _ (by decide)⟩ (y 1))

variable (c : Dev nD) (i : grid0.Coords)
  (arg2 : Memref sig .tc .vmem S1024x2048 .f32) (harg2 : arg2.IsWhole) (arg3 : Memref sig .tc .vmem S1x2048 .f32) (harg3 : arg3.IsWhole)
  (arg4 : Memref sig .tc .vmem S512x2048 .bf16) (harg4 : arg4.IsWhole) (arg5 : Memref sig .tc .vmem S512x2048 .bf16) (harg5 : arg5.IsWhole)
  (arg6 : Memref sig .tc .vmem S1024x2048 .bf16) (harg6 : arg6.IsWhole) (arg7 : Memref sig .tc .vmem S1x512 .f32) (harg7 : arg7.IsWhole)
  (arg8 : Memref sig .tc .vmem S1024x512 .bf16) (harg8 : arg8.IsWhole) (arg9 : Memref sig .tc .vmem S1024x512 .f32) (harg9 : arg9.IsWhole)
  (arg10 : Memref sig .tc .vmem S1024x1024 .bf16) (harg10 : arg10.IsWhole) (arg11 : Memref sig .tc .vmem S1024x2048 .bf16) (harg11 : arg11.IsWhole)

/-- One trip of the first column's loop stores the normalized rows of one slab. -/
theorem trip_eq (h1 : k0_cond1 i = 1#1) (X2 : arg2.view.ty.Contents (Elt F)) (X3 : arg3.view.ty.Contents (Elt F)) (k : Fin k0_t1_loop.trips) :
    tripL_k0_t1 (F := F) Variants.none c none i arg2 harg2 arg3 harg3 arg4 harg4 arg5 harg5 arg6 harg6 arg7 harg7 arg8 harg8 arg9 harg9 arg10 harg10 arg11 harg11 h1 X2 X3 k
      = [⟨Rect.unit (s := S1024x2048) (k0_off1 k) S256x2048.size (k0_off1_inb i k h1),
          k0_pay1 (arg2.view.readAt (Elt F) (Rect.unit (s := S1024x2048) (k0_off1 k) S256x2048.size (k0_off1_inb i k h1)).toLoadRect X2)
            (arg3.view.readAt (Elt F) (Rect.unit (s := S1x2048) ![0, 0] S1x2048.size inb_S1x2048_S1x2048_0_0).toLoadRect X3)⟩] := by
  unfold tripL_k0_t1 trip_k0_t1
  rfl

/-- The slab a trip stores is that part of the normalized rows. -/
theorem slab_at (h1 : k0_cond1 i = 1#1) (x0 : Vec F S1024x2048 .f32) (x1 : Vec F S1x2048 .f32) (k : Fin k0_t1_loop.trips) (z : S256x2048.Idx) :
    k0_pay1 (arg2.view.readAt (Elt F) (Rect.unit (s := S1024x2048) (k0_off1 k) S256x2048.size (k0_off1_inb i k h1)).toLoadRect (harg2.unread x0))
        (arg3.view.readAt (Elt F) (Rect.unit (s := S1x2048) ![0, 0] S1x2048.size inb_S1x2048_S1x2048_0_0).toLoadRect (harg3.unread x1)) z
      = rows x0 x1 ((Rect.unit (s := S1024x2048) (k0_off1 k) S256x2048.size (k0_off1_inb i k h1)).emb z) := by
  have hz : (z 0).val < 256 := (z 0).isLt
  have o0 : k0_off1 k 0 = 256 * k.val := by rw [off_eq]; rfl
  have o1 : k0_off1 k 1 = 0 := by rw [off_eq]; rfl
  obtain ⟨u, hu⟩ : ∃ u, u = (Rect.unit (s := S1024x2048) (k0_off1 k) S256x2048.size (k0_off1_inb i k h1)).emb z := ⟨_, rfl⟩
  have e0 : (u 0).val = 256 * k.val + (z 0).val := by
    rw [hu]; show k0_off1 k 0 + 1 * (z 0).val = _; omega
  have e1 : (u 1).val = (z 1).val := by
    rw [hu]; show k0_off1 k 1 + 1 * (z 1).val = _; omega
  rw [load_whole, harg3.read_unread, View.readAt_eq_ld, harg2.read_unread, ← hu]
  unfold rows
  refine congr (congrArg (fun q => k0_pay1 q x1) (funext fun w => congrArg x0 (funext fun a => Fin.ext ?_))) (funext fun a => Fin.ext ?_)
  · match a with
    | 0 => show k0_off1 k 0 + 1 * (w 0).val = 256 * ((u 0).val / 256) + (w 0).val; omega
    | 1 => show k0_off1 k 1 + 1 * (w 1).val = (w 1).val; omega
  · match a with
    | 0 => show (z 0).val = (u 0).val % 256; omega
    | 1 => exact e1.symm

/-- After the loop the scratch holds the normalized rows, whatever it held before. -/
theorem rows_read (h1 : k0_cond1 i = 1#1) (x0 : Vec F S1024x2048 .f32) (x1 : Vec F S1x2048 .f32) (fs : arg11.view.ty.Contents (Elt F)) :
    arg11.view.read (Elt F) (arg11.view.writes (Elt F) fs (pb_k0_t1 (F := F) Variants.none c none i arg2 harg2 arg3 harg3 arg4 harg4 arg5 harg5 arg6 harg6 arg7 harg7 arg8 harg8 arg9 harg9 arg10 harg10 arg11 harg11 h1
      (harg2.unread x0) (harg3.unread x1) k0_t1_loop.trips)) = rows x0 x1 := by
  obtain ⟨hp, hc⟩ := pieces_of_rec (N := k0_t1_loop.trips) (fun n => pb_k0_t1 (F := F) Variants.none c none i arg2 harg2 arg3 harg3 arg4 harg4 arg5 harg5 arg6 harg6 arg7 harg7 arg8 harg8 arg9 harg9 arg10 harg10 arg11 harg11 h1
    (harg2.unread x0) (harg3.unread x1) n) _ (pb_k0_t1.eq_1 ..) (fun k => (pb_k0_t1_succ ..).trans (congrArg (· ++ _) (trip_eq c i arg2 harg2 arg3 harg3 arg4 harg4 arg5 harg5 arg6 harg6 arg7 harg7 arg8 harg8 arg9 harg9 arg10 harg10 arg11 harg11 h1 _ _ k))) _ le_rfl
  funext y
  have hy : (y 0).val < 1024 := (y 0).isLt
  have hk : (y 0).val / 256 < k0_t1_loop.trips := by rw [trips_eq]; omega
  refine View.read_writes_apply_of_pieces _ _ (rows x0 x1) _ (fun p hm z => ?_) y ⟨_, hc ⟨_, hk⟩ hk, ?_⟩
  · obtain ⟨k, rfl⟩ := hp p hm
    exact slab_at i arg2 harg2 arg3 harg3 h1 x0 x1 k z
  · have o0 : k0_off1 ⟨(y 0).val / 256, hk⟩ 0 = 256 * ((y 0).val / 256) := by rw [off_eq]; rfl
    have o1 : k0_off1 ⟨(y 0).val / 256, hk⟩ 1 = 0 := by rw [off_eq]; rfl
    refine (Rect.mem_set_unit (inb := k0_off1_inb i ⟨_, hk⟩ h1)).mpr fun a => ?_
    match a with
    | 0 => show k0_off1 _ 0 ≤ (y 0).val ∧ (y 0).val < k0_off1 _ 0 + 256; omega
    | 1 => show k0_off1 _ 1 ≤ (y 1).val ∧ (y 1).val < k0_off1 _ 1 + 2048; have : (y 1).val < 2048 := (y 1).isLt; omega

/-- The first column: the rows normalized into the scratch, then an attention block. -/
theorem run_A (h1 : k0_cond1 i = 1#1) (h2 : k0_cond2 i = 1#1) (h3 : ¬ k0_cond3 i = 1#1) (h4 : ¬ k0_cond4 i = 1#1) (h5 : ¬ k0_cond5 i = 1#1)
    (x0 : Vec F S1024x2048 .f32) (x1 : Vec F S1x2048 .f32) (x2 : Vec F S512x2048 .bf16) (x5 : Vec F S1x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg7 fullShare x5
        ∗ (∃ d, owns (c : Thread nD τ) arg8 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg7 fullShare x5
            ∗ owns (c : Thread nD τ) arg8 fullShare (k0_pay2 (rows x0 x1) x2 x5) ∗ owns (c : Thread nD τ) arg11 fullShare (rows x0 x1)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11) K := by
  simp only [cc0_in_proj_eq_skeleton]; unfold cc0_in_proj_skel
  unfold owns
  iintro ⟨⟨%f0, %hf0, H0⟩, ⟨%f1, %hf1, H1⟩, ⟨%f2, %hf2, H2⟩, ⟨%f5, %hf5, H5⟩, ⟨%d6, %f6, -, H6⟩, ⟨%ds, %fs, -, HS⟩, Hk⟩
  obtain rfl := harg2.eq_unread hf0; obtain rfl := harg3.eq_unread hf1; obtain rfl := harg4.eq_unread hf2; obtain rfl := harg7.eq_unread hf5
  sl_exec (disch := first | sl_exact h1 | sl_exact h2 | sl_exact h3 | sl_exact h4 | sl_exact h5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr; · ipureintro; exact harg7.read_unread _
    iexact H5
  isplitl [H6]
  · iexists _; isplitr; swap; · iexact H6
    ipureintro
    rw [read_whole_write, load_whole, load_whole, hf2, hf5]
    exact congrArg (fun r => k0_pay2 r x2 x5) ((load_whole _ _ _).trans (rows_read c i arg2 harg2 arg3 harg3 arg4 harg4 arg5 harg5 arg6 harg6 arg7 harg7 arg8 harg8 arg9 harg9 arg10 harg10 arg11 harg11 h1 x0 x1 fs))
  iexists _; isplitr; swap; · iexact HS
  ipureintro
  exact rows_read c i arg2 harg2 arg3 harg3 arg4 harg4 arg5 harg5 arg6 harg6 arg7 harg7 arg8 harg8 arg9 harg9 arg10 harg10 arg11 harg11 h1 x0 x1 fs

/-- The second and third columns: an attention block from the kept rows. -/
theorem run_B (h1 : ¬ k0_cond1 i = 1#1) (h2 : k0_cond2 i = 1#1) (h3 : ¬ k0_cond3 i = 1#1) (h4 : ¬ k0_cond4 i = 1#1) (h5 : ¬ k0_cond5 i = 1#1)
    (x2 : Vec F S512x2048 .bf16) (x5 : Vec F S1x512 .f32) (xs : Vec F S1024x2048 .bf16) (E : Set ℕ) (K : PUnit → sProp 𝕄) :
    iprop(owns (c : Thread nD τ) arg4 fullShare x2 ∗ owns (c : Thread nD τ) arg7 fullShare x5
        ∗ (∃ d, owns (c : Thread nD τ) arg8 fullShare d) ∗ owns (c : Thread nD τ) arg11 fullShare xs
        ∗ (iprop(owns (c : Thread nD τ) arg4 fullShare x2 ∗ owns (c : Thread nD τ) arg7 fullShare x5
            ∗ owns (c : Thread nD τ) arg8 fullShare (k0_pay2 xs x2 x5) ∗ owns (c : Thread nD τ) arg11 fullShare xs) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11) K := by
  simp only [cc0_in_proj_eq_skeleton]; unfold cc0_in_proj_skel
  unfold owns
  iintro ⟨⟨%f2, %hf2, H2⟩, ⟨%f5, %hf5, H5⟩, ⟨%d6, %f6, -, H6⟩, ⟨%fs, %hfs, HS⟩, Hk⟩
  obtain rfl := harg4.eq_unread hf2; obtain rfl := harg7.eq_unread hf5; obtain rfl := harg11.eq_unread hfs
  sl_exec (disch := first | sl_exact h1 | sl_exact h2 | sl_exact h3 | sl_exact h4 | sl_exact h5)
  sl_step
  iapply Hk
  isplitl [H2]
  · iexists _; isplitr; · ipureintro; exact harg4.read_unread _
    iexact H2
  isplitl [H5]
  · iexists _; isplitr; · ipureintro; exact harg7.read_unread _
    iexact H5
  isplitl [H6]
  · iexists _; isplitr; swap; · iexact H6
    ipureintro
    rw [read_whole_write, load_whole, load_whole, load_whole, hf2, hf5, hfs]
  iexists _; isplitr; · ipureintro; exact harg11.read_unread _
  iexact HS

/-- The fourth column: the first latent block. -/
theorem run_C (h1 : ¬ k0_cond1 i = 1#1) (h2 : ¬ k0_cond2 i = 1#1) (h3 : k0_cond3 i = 1#1) (h4 : ¬ k0_cond4 i = 1#1) (h5 : ¬ k0_cond5 i = 1#1)
    (x2 : Vec F S512x2048 .bf16) (xs : Vec F S1024x2048 .bf16) (E : Set ℕ) (K : PUnit → sProp 𝕄) :
    iprop(owns (c : Thread nD τ) arg4 fullShare x2 ∗ (∃ d, owns (c : Thread nD τ) arg9 fullShare d) ∗ owns (c : Thread nD τ) arg11 fullShare xs
        ∗ (iprop(owns (c : Thread nD τ) arg4 fullShare x2 ∗ owns (c : Thread nD τ) arg9 fullShare (k0_pay3 xs x2)
            ∗ owns (c : Thread nD τ) arg11 fullShare xs) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11) K := by
  simp only [cc0_in_proj_eq_skeleton]; unfold cc0_in_proj_skel
  unfold owns
  iintro ⟨⟨%f2, %hf2, H2⟩, ⟨%d6, %f6, -, H6⟩, ⟨%fs, %hfs, HS⟩, Hk⟩
  obtain rfl := harg4.eq_unread hf2; obtain rfl := harg11.eq_unread hfs
  sl_exec (disch := first | sl_exact h1 | sl_exact h2 | sl_exact h3 | sl_exact h4 | sl_exact h5)
  sl_step
  iapply Hk
  isplitl [H2]
  · iexists _; isplitr; · ipureintro; exact harg4.read_unread _
    iexact H2
  isplitl [H6]
  · iexists _; isplitr; swap; · iexact H6
    ipureintro
    rw [read_whole_write, load_whole, load_whole, hf2, hfs]
  iexists _; isplitr; · ipureintro; exact harg11.read_unread _
  iexact HS

/-- The fifth column: the second latent block. -/
theorem run_D (h1 : ¬ k0_cond1 i = 1#1) (h2 : ¬ k0_cond2 i = 1#1) (h3 : ¬ k0_cond3 i = 1#1) (h4 : k0_cond4 i = 1#1) (h5 : ¬ k0_cond5 i = 1#1)
    (x3 : Vec F S512x2048 .bf16) (xs : Vec F S1024x2048 .bf16) (E : Set ℕ) (K : PUnit → sProp 𝕄) :
    iprop(owns (c : Thread nD τ) arg5 fullShare x3 ∗ (∃ d, owns (c : Thread nD τ) arg9 fullShare d) ∗ owns (c : Thread nD τ) arg11 fullShare xs
        ∗ (iprop(owns (c : Thread nD τ) arg5 fullShare x3 ∗ owns (c : Thread nD τ) arg9 fullShare (k0_pay4 xs x3)
            ∗ owns (c : Thread nD τ) arg11 fullShare xs) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11) K := by
  simp only [cc0_in_proj_eq_skeleton]; unfold cc0_in_proj_skel
  unfold owns
  iintro ⟨⟨%f2, %hf2, H2⟩, ⟨%d6, %f6, -, H6⟩, ⟨%fs, %hfs, HS⟩, Hk⟩
  obtain rfl := harg5.eq_unread hf2; obtain rfl := harg11.eq_unread hfs
  sl_exec (disch := first | sl_exact h1 | sl_exact h2 | sl_exact h3 | sl_exact h4 | sl_exact h5)
  sl_step
  iapply Hk
  isplitl [H2]
  · iexists _; isplitr; · ipureintro; exact harg5.read_unread _
    iexact H2
  isplitl [H6]
  · iexists _; isplitr; swap; · iexact H6
    ipureintro
    rw [read_whole_write, load_whole, load_whole, hf2, hfs]
  iexists _; isplitr; · ipureintro; exact harg11.read_unread _
  iexact HS

/-- The remaining columns: a gate block. -/
theorem run_E (h1 : ¬ k0_cond1 i = 1#1) (h2 : ¬ k0_cond2 i = 1#1) (h3 : ¬ k0_cond3 i = 1#1) (h4 : ¬ k0_cond4 i = 1#1) (h5 : k0_cond5 i = 1#1)
    (x4 : Vec F S1024x2048 .bf16) (xs : Vec F S1024x2048 .bf16) (E : Set ℕ) (K : PUnit → sProp 𝕄) :
    iprop(owns (c : Thread nD τ) arg6 fullShare x4 ∗ (∃ d, owns (c : Thread nD τ) arg10 fullShare d) ∗ owns (c : Thread nD τ) arg11 fullShare xs
        ∗ (iprop(owns (c : Thread nD τ) arg6 fullShare x4 ∗ owns (c : Thread nD τ) arg10 fullShare (k0_pay5 xs x4)
            ∗ owns (c : Thread nD τ) arg11 fullShare xs) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11) K := by
  simp only [cc0_in_proj_eq_skeleton]; unfold cc0_in_proj_skel
  unfold owns
  iintro ⟨⟨%f2, %hf2, H2⟩, ⟨%d6, %f6, -, H6⟩, ⟨%fs, %hfs, HS⟩, Hk⟩
  obtain rfl := harg6.eq_unread hf2; obtain rfl := harg11.eq_unread hfs
  sl_exec (disch := first | sl_exact h1 | sl_exact h2 | sl_exact h3 | sl_exact h4 | sl_exact h5)
  sl_step
  iapply Hk
  isplitl [H2]
  · iexists _; isplitr; · ipureintro; exact harg6.read_unread _
    iexact H2
  isplitl [H6]
  · iexists _; isplitr; swap; · iexact H6
    ipureintro
    rw [read_whole_write, load_whole, load_whole, hf2, hfs]
  iexists _; isplitr; · ipureintro; exact harg11.read_unread _
  iexact HS

end Cert.Kernel4Ideal.Proj

end
-- ==== Proof.ProjFrame.lean ====
module

public import proofs.«01_k».proof.Proof.ProjRuns
public import Idealize.ShloMosaic.Lib.Claim

/-! The input projection's run. The grid is 16 row blocks by 9 columns; the outputs are written in stages: the attention
block in columns 0 to 2, the latent block in columns 3 and 4, the gates in columns 5 to 8. A block written earlier stays
in its buffer until the column that writes it back, so what an output buffer holds is followed along the row. -/

@[expose] public section

set_option maxRecDepth 16384

noncomputable section

namespace Cert.Kernel4Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays when the kernel starts. -/
abbrev V (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

set_option maxHeartbeats 800000 in
theorem main_host (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub host_fresh main_chain

/-- The host code before the kernel writes none of the arguments. -/
theorem V_arg (c : Dev nD) {b : Ref sig .tc} (hb : b = main_arg0 ∨ b = main_arg1 ∨ b = main_arg2) : V m c b = m ((c : Thread nD τ).loc b) :=
  StableHlo.after_of_forall_not_mem (b := Proc.devRef .tc b) _ _ (List.forall_iff_forall_mem.mp (by
    simp only [hostOps0, List.Forall, StableHlo.nullary_writes, StableHlo.unary_writes, StableHlo.binary_writes, StableHlo.nary_writes,
      StableHlo.reshape_writes, Finset.mem_singleton]
    repeat' apply And.intro
    all_goals exact StableHlo.devRef_ne_of_ne (by rcases hb with rfl | rfl | rfl <;> decide)))

/-- Window `w`'s block at point `t`. -/
def blkAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## Which column a point is in -/

theorem is1 : ∀ t : Fin cfg0.N, k0_cond1 (grid0.coords t) = 1#1 ↔ t.val % 9 = 0 := (by decide +kernel : ∀ t : Fin grid0.N, _)
theorem is2 : ∀ t : Fin cfg0.N, k0_cond2 (grid0.coords t) = 1#1 ↔ t.val % 9 < 3 := (by decide +kernel : ∀ t : Fin grid0.N, _)
theorem is3 : ∀ t : Fin cfg0.N, k0_cond3 (grid0.coords t) = 1#1 ↔ t.val % 9 = 3 := (by decide +kernel : ∀ t : Fin grid0.N, _)
theorem is4 : ∀ t : Fin cfg0.N, k0_cond4 (grid0.coords t) = 1#1 ↔ t.val % 9 = 4 := (by decide +kernel : ∀ t : Fin grid0.N, _)
theorem is5 : ∀ t : Fin cfg0.N, k0_cond5 (grid0.coords t) = 1#1 ↔ 5 ≤ t.val % 9 := (by decide +kernel : ∀ t : Fin grid0.N, _)

theorem idle6 : ∀ t : Fin cfg0.N, cfg0.idle 6 (cfg0.grid.coords t) = decide (3 ≤ t.val % 9) := (by decide +kernel : ∀ t : Fin grid0.N, idle0 6 (grid0.coords t) = _)
theorem idle7 : ∀ t : Fin cfg0.N, cfg0.idle 7 (cfg0.grid.coords t) = decide (t.val % 9 < 3 ∨ 5 ≤ t.val % 9) := (by decide +kernel : ∀ t : Fin grid0.N, idle0 7 (grid0.coords t) = _)
theorem idle8 : ∀ t : Fin cfg0.N, cfg0.idle 8 (cfg0.grid.coords t) = decide (t.val % 9 < 5) := (by decide +kernel : ∀ t : Fin grid0.N, idle0 8 (grid0.coords t) = _)
theorem back6 : ∀ t : Fin cfg0.N, (cfg0.win 6).flush t = decide (t.val % 9 < 2 ∨ t.val % 9 = 8) := (by decide +kernel : ∀ t : Fin grid0.N, win0_6.flush t = _)
theorem back7 : ∀ t : Fin cfg0.N, (cfg0.win 7).flush t = decide (t.val % 9 = 3 ∨ t.val % 9 = 8) := (by decide +kernel : ∀ t : Fin grid0.N, win0_7.flush t = _)
theorem back8 : ∀ t : Fin cfg0.N, (cfg0.win 8).flush t = decide (5 ≤ t.val % 9) := (by decide +kernel : ∀ t : Fin grid0.N, win0_8.flush t = _)

/-! ## What the scratch and the outputs hold, point by point -/

/-- The normalized rows: made in the row's first column, kept after it. -/
def scr (c : Dev nD) : (n : ℕ) → n < cfg0.N → Vec F S1024x2048 .bf16
  | 0, hn => rows (blkAt m c 0 ⟨0, hn⟩) (blkAt m c 1 ⟨0, hn⟩)
  | n + 1, hn => if (n + 1) % 9 = 0 then rows (blkAt m c 0 ⟨n + 1, hn⟩) (blkAt m c 1 ⟨n + 1, hn⟩) else scr c n (by omega)

/-- The attention block. -/
def att (c : Dev nD) : (n : ℕ) → n < cfg0.N → Vec F S1024x512 .bf16
  | 0, hn => k0_pay2 (scr m c 0 hn) (blkAt m c 2 ⟨0, hn⟩) (blkAt m c 5 ⟨0, hn⟩)
  | n + 1, hn => if (n + 1) % 9 < 3 then k0_pay2 (scr m c (n + 1) hn) (blkAt m c 2 ⟨n + 1, hn⟩) (blkAt m c 5 ⟨n + 1, hn⟩) else att c n (by omega)

/-- The latent block. -/
def lat (c : Dev nD) : (n : ℕ) → n < cfg0.N → Vec F S1024x512 .f32
  | 0, hn => k0_pay3 (scr m c 0 hn) (blkAt m c 2 ⟨0, hn⟩)
  | n + 1, hn => if (n + 1) % 9 = 3 then k0_pay3 (scr m c (n + 1) hn) (blkAt m c 2 ⟨n + 1, hn⟩)
      else if (n + 1) % 9 = 4 then k0_pay4 (scr m c (n + 1) hn) (blkAt m c 3 ⟨n + 1, hn⟩) else lat c n (by omega)

theorem scr_first (c : Dev nD) (t : Fin cfg0.N) (h : t.val % 9 = 0) : scr m c t.val t.isLt = rows (blkAt m c 0 t) (blkAt m c 1 t) := by
  obtain ⟨n, hn⟩ := t
  cases n with
  | zero => rfl
  | succ n => exact if_pos h

theorem scr_next (c : Dev nD) (n : ℕ) (hn : n + 1 < cfg0.N) (h : ¬ (n + 1) % 9 = 0) : scr m c (n + 1) hn = scr m c n (by omega) := if_neg h

theorem att_new (c : Dev nD) (t : Fin cfg0.N) (h : t.val % 9 < 3) :
    att m c t.val t.isLt = k0_pay2 (scr m c t.val t.isLt) (blkAt m c 2 t) (blkAt m c 5 t) := by
  obtain ⟨n, hn⟩ := t
  cases n with
  | zero => rfl
  | succ n => exact if_pos h

theorem att_next (c : Dev nD) (n : ℕ) (hn : n + 1 < cfg0.N) (h : 3 ≤ (n + 1) % 9) : att m c (n + 1) hn = att m c n (by omega) := if_neg (by omega)

theorem lat_new3 (c : Dev nD) (t : Fin cfg0.N) (h : t.val % 9 = 3) : lat m c t.val t.isLt = k0_pay3 (scr m c t.val t.isLt) (blkAt m c 2 t) := by
  obtain ⟨n, hn⟩ := t
  cases n with
  | zero => rfl
  | succ n => exact if_pos h

theorem lat_new4 (c : Dev nD) (t : Fin cfg0.N) (h : t.val % 9 = 4) : lat m c t.val t.isLt = k0_pay4 (scr m c t.val t.isLt) (blkAt m c 3 t) := by
  obtain ⟨n, hn⟩ := t
  cases n with
  | zero => exact absurd (show 0 % 9 = 4 from h) (by decide)
  | succ n =>
    have h' : (n + 1) % 9 = 4 := h
    exact (if_neg (by omega)).trans (if_pos h')

theorem lat_next (c : Dev nD) (n : ℕ) (hn : n + 1 < cfg0.N) (h : 5 ≤ (n + 1) % 9) : lat m c (n + 1) hn = lat m c n (by omega) :=
  (if_neg (by omega)).trans (if_neg (by omega))

/-! ## The proof data -/

/-- The kernel's scratch. -/
abbrev scM : Memref sig .tc .vmem S1024x2048 .bf16 := Memref.whole cc0_scratch0

/-- Between the points: the scratch at what the last point left in it. -/
def Phi (c : Dev nD) : (n : ℕ) → n ≤ cfg0.N → sProp 𝕄
  | 0, _ => Pipeline.ΦA spec0 c
  | n + 1, hn => iprop(owns (c : Thread nD τ) scM fullShare (scr m c n hn) ∗ (∃ r, prngReg c r))

theorem scoped_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

theorem Phi_any (c : Dev nD) (n : ℕ) (hn : n ≤ cfg0.N) : Phi m c n hn ⊢ Pipeline.ΦA spec0 c := by
  cases n with
  | zero => exact Idealize.SL.BI.Entails.refl _
  | succ n =>
    rw [scoped_eq]
    show iprop(owns (c : Thread nD τ) scM fullShare (scr m c n hn) ∗ (∃ r, prngReg c r)) ⊢ _
    iintro ⟨HS, Hg⟩
    isplitl [HS]
    · iexists _; iexact HS
    iexact Hg

theorem Phi_kept (c : Dev nD) (t : Fin cfg0.N) (h : ¬ t.val % 9 = 0) :
    Phi m c t.val (Nat.le_of_lt t.isLt) = iprop(owns (c : Thread nD τ) scM fullShare (scr m c t.val t.isLt) ∗ (∃ r, prngReg c r)) := by
  obtain ⟨n, hn⟩ := t
  cases n with
  | zero => exact absurd rfl h
  | succ n => rw [scr_next m c n hn h]; rfl

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => blkAt m c 0 t
    | ⟨1, _⟩ => blkAt m c 1 t
    | ⟨2, _⟩ => blkAt m c 2 t
    | ⟨3, _⟩ => blkAt m c 3 t
    | ⟨4, _⟩ => blkAt m c 4 t
    | ⟨5, _⟩ => blkAt m c 5 t
    | ⟨6, _⟩ => att m c t.val t.isLt
    | ⟨7, _⟩ => lat m c t.val t.isLt
    | ⟨8, _⟩ => k0_pay5 (scr m c t.val t.isLt) (blkAt m c 4 t)
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = blkAt m c 0 t := by dsimp only [dats]
theorem after1 (c : Dev nD) (t : Fin cfg0.N) : (dats m 0 c).after 1 t = blkAt m c 1 t := by dsimp only [dats]
theorem after2 (c : Dev nD) (t : Fin cfg0.N) : (dats m 0 c).after 2 t = blkAt m c 2 t := by dsimp only [dats]
theorem after3 (c : Dev nD) (t : Fin cfg0.N) : (dats m 0 c).after 3 t = blkAt m c 3 t := by dsimp only [dats]
theorem after4 (c : Dev nD) (t : Fin cfg0.N) : (dats m 0 c).after 4 t = blkAt m c 4 t := by dsimp only [dats]
theorem after5 (c : Dev nD) (t : Fin cfg0.N) : (dats m 0 c).after 5 t = blkAt m c 5 t := by dsimp only [dats]
theorem after6 (c : Dev nD) (t : Fin cfg0.N) : (dats m 0 c).after 6 t = att m c t.val t.isLt := by dsimp only [dats]
theorem after7 (c : Dev nD) (t : Fin cfg0.N) : (dats m 0 c).after 7 t = lat m c t.val t.isLt := by dsimp only [dats]
theorem after8 (c : Dev nD) (t : Fin cfg0.N) : (dats m 0 c).after 8 t = k0_pay5 (scr m c t.val t.isLt) (blkAt m c 4 t) := by dsimp only [dats]

/-- What an input's buffer holds when the body starts: its block, whether this point fetched it or an earlier one. -/
theorem before_in (c : Dev nD) (w : Fin cfg0.W) (hw : (cfg0.win w).isOut = false) (hl : ∀ i, cfg0.idle w i = false)
    (hc : ∀ (i : cfg0.grid.Coords) a, (cfg0.win w).clip i a = none)
    (hk : ∀ t, (cfg0.win w).cut (cfg0.grid.coords t) ((dats m 0 c).after w t) = blkAt m c w t) (t : Fin cfg0.N) (d) :
    (dats m 0 c).before w t d = (cfg0.win w).fill (cfg0.grid.coords t) d (blkAt m c w t) :=
  (dats m 0 c).before_in_eq_fetched w hw hl (fun t t' _ => funext fun a => (hc _ a).trans (hc _ a).symm)
    (fun t => (hk t).trans (by unfold Dat.blockOf blkAt; rw [A_eq])) t d |>.trans
    (by unfold Dat.fetched Dat.blockOf blkAt; rw [A_eq])

theorem before0 (c : Dev nD) (t : Fin cfg0.N) (d) : (dats m 0 c).before 0 t d = blkAt m c 0 t :=
  before_in m c 0 rfl (fun _ => rfl) (fun _ _ => rfl) (fun t => by rw [after0]) t d
theorem before1 (c : Dev nD) (t : Fin cfg0.N) (d) : (dats m 0 c).before 1 t d = blkAt m c 1 t :=
  before_in m c 1 rfl (fun _ => rfl) (fun _ _ => rfl) (fun t => by rw [after1]) t d
theorem before2 (c : Dev nD) (t : Fin cfg0.N) (d) : (dats m 0 c).before 2 t d = blkAt m c 2 t :=
  before_in m c 2 rfl (fun _ => rfl) (fun _ _ => rfl) (fun t => by rw [after2]) t d
theorem before3 (c : Dev nD) (t : Fin cfg0.N) (d) : (dats m 0 c).before 3 t d = blkAt m c 3 t :=
  before_in m c 3 rfl (fun _ => rfl) (fun _ _ => rfl) (fun t => by rw [after3]) t d
theorem before4 (c : Dev nD) (t : Fin cfg0.N) (d) : (dats m 0 c).before 4 t d = blkAt m c 4 t :=
  before_in m c 4 rfl (fun _ => rfl) (fun _ _ => rfl) (fun t => by rw [after4]) t d
theorem before5 (c : Dev nD) (t : Fin cfg0.N) (d) : (dats m 0 c).before 5 t d = blkAt m c 5 t :=
  before_in m c 5 rfl (fun _ => rfl) (fun _ _ => rfl) (fun t => by rw [after5]) t d

/-- What an output's buffer holds where the point before neither wrote it back nor was idle for it. -/
theorem before_live (c : Dev nD) (w : Fin cfg0.W) (hw : (cfg0.win w).isOut = true) (n : ℕ) (hn : n + 1 < cfg0.N)
    (hfl : (cfg0.win w).flush ⟨n, Nat.lt_of_succ_lt hn⟩ = false) (hid : cfg0.idle w (cfg0.grid.coords ⟨n, Nat.lt_of_succ_lt hn⟩) = false)
    (hclip : ∀ (i : cfg0.grid.Coords) a, (cfg0.win w).clip i a = none) (d) :
    (dats m 0 c).before w ⟨n + 1, hn⟩ d = (dats m 0 c).after w ⟨n, Nat.lt_of_succ_lt hn⟩ := by
  rw [(dats m 0 c).before_of_pos w ⟨n + 1, hn⟩ (Nat.succ_ne_zero n) ((cfg0.win w).fetch_out hw _)]
  show (if (cfg0.win w).flush ⟨n, _⟩ = true then d else (dats m 0 c).left w ⟨n, _⟩ d) = _
  rw [hfl, if_neg Bool.false_ne_true]
  unfold Dat.left; rw [hid]
  show (dats m 0 c).kept w ⟨n, _⟩ d = _
  unfold Dat.kept
  rw [Pipeline.fill_of_clip_none w _ (hclip _) d ((dats m 0 c).after w _), Window.fill_cut]

/-- What an output's buffer holds where the point before was idle for it and did not write it back. -/
theorem before_idle (c : Dev nD) (w : Fin cfg0.W) (hw : (cfg0.win w).isOut = true) (n : ℕ) (hn : n + 1 < cfg0.N)
    (hfl : (cfg0.win w).flush ⟨n, Nat.lt_of_succ_lt hn⟩ = false) (hid : cfg0.idle w (cfg0.grid.coords ⟨n, Nat.lt_of_succ_lt hn⟩) = true) (d) :
    (dats m 0 c).before w ⟨n + 1, hn⟩ d = (dats m 0 c).before w ⟨n, Nat.lt_of_succ_lt hn⟩ d := by
  rw [(dats m 0 c).before_of_pos w ⟨n + 1, hn⟩ (Nat.succ_ne_zero n) ((cfg0.win w).fetch_out hw _)]
  show (if (cfg0.win w).flush ⟨n, _⟩ = true then d else (dats m 0 c).left w ⟨n, _⟩ d) = _
  rw [hfl, if_neg Bool.false_ne_true]
  unfold Dat.left; rw [hid]

/-- After its three columns the attention block stays in its buffer. -/
theorem before6 (c : Dev nD) : ∀ (n : ℕ) (hn : n < cfg0.N), 3 ≤ n % 9 → ∀ d, (dats m 0 c).before 6 ⟨n, hn⟩ d = att m c n hn := by
  intro n
  induction n with
  | zero => intro hn h; exact absurd h (by decide)
  | succ n ih =>
    intro hn h d
    have hf : (cfg0.win 6).flush ⟨n, Nat.lt_of_succ_lt hn⟩ = false := by rw [back6]; exact decide_eq_false (by dsimp only; omega)
    rw [att_next m c n hn h]
    by_cases h2 : n % 9 = 2
    · rw [before_live m c 6 rfl n hn hf (by rw [idle6]; exact decide_eq_false (by dsimp only; omega)) (fun _ _ => rfl), after6]
    · rw [before_idle m c 6 rfl n hn hf (by rw [idle6]; exact decide_eq_true (by dsimp only; omega))]
      exact ih (by omega) (by omega) d

/-- After its two columns the latent block stays in its buffer. -/
theorem before7 (c : Dev nD) : ∀ (n : ℕ) (hn : n < cfg0.N), 5 ≤ n % 9 → ∀ d, (dats m 0 c).before 7 ⟨n, hn⟩ d = lat m c n hn := by
  intro n
  induction n with
  | zero => intro hn h; exact absurd h (by decide)
  | succ n ih =>
    intro hn h d
    have hf : (cfg0.win 7).flush ⟨n, Nat.lt_of_succ_lt hn⟩ = false := by rw [back7]; exact decide_eq_false (by dsimp only; omega)
    rw [lat_next m c n hn h]
    by_cases h2 : n % 9 = 4
    · rw [before_live m c 7 rfl n hn hf (by rw [idle7]; exact decide_eq_false (by dsimp only; omega)) (fun _ _ => rfl), after7]
    · rw [before_idle m c 7 rfl n hn hf (by rw [idle7]; exact decide_eq_true (by dsimp only; omega))]
      exact ih (by omega) (by omega) d

/-! ## What is handed back of an output buffer -/

/-- The buffer at what the body leaves, in a column that stores into it. -/
theorem live_eq (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- The buffer as found, in a column that neither stores into it nor writes it back. -/
theorem idle_eq (c : Dev nD) (w : Fin cfg0.W) (t : Fin cfg0.N) (h : cfg0.idle w (cfg0.grid.coords t) = true) (hf : (cfg0.win w).flush t = false) :
    (dats m 0 c).leavesExact w t
      = iprop(∃ d, owns (c : Thread nD τ) ((cfg0.win w).stage (cfg0.slots t w)) fullShare ((dats m 0 c).before w t d)) := by
  unfold Dat.leavesExact; rw [h, hf]

/-- The buffer at its block, in a column that writes it back without storing into it. -/
theorem back_eq (c : Dev nD) (w : Fin cfg0.W) (t : Fin cfg0.N) (h : cfg0.idle w (cfg0.grid.coords t) = true) (hf : (cfg0.win w).flush t = true) :
    (dats m 0 c).leavesExact w t = owns (c : Thread nD τ) ((cfg0.win w).stage (cfg0.slots t w)) fullShare ((dats m 0 c).after w t) := by
  unfold Dat.leavesExact; rw [h, hf]

theorem pass6 (c : Dev nD) (t : Fin cfg0.N) (h : 3 ≤ t.val % 9) :
    (iprop(∃ d, owns (c : Thread nD τ) ((cfg0.win 6).stage (cfg0.slots t 6)) fullShare ((dats m 0 c).before 6 t d)) : sProp 𝕄) ⊢ (dats m 0 c).leavesExact 6 t := by
  have hi : cfg0.idle 6 (cfg0.grid.coords t) = true := by rw [idle6]; exact decide_eq_true h
  by_cases h8 : t.val % 9 = 8
  · rw [back_eq m c 6 t hi (by rw [back6]; exact decide_eq_true (Or.inr h8)), after6]
    simp only [before6 m c t.val t.isLt h]
    iintro ⟨%d, H⟩; iexact H
  · rw [idle_eq m c 6 t hi (by rw [back6]; exact decide_eq_false (by omega))]

theorem pass7 (c : Dev nD) (t : Fin cfg0.N) (h : t.val % 9 < 3 ∨ 5 ≤ t.val % 9) :
    (iprop(∃ d, owns (c : Thread nD τ) ((cfg0.win 7).stage (cfg0.slots t 7)) fullShare ((dats m 0 c).before 7 t d)) : sProp 𝕄) ⊢ (dats m 0 c).leavesExact 7 t := by
  have hi : cfg0.idle 7 (cfg0.grid.coords t) = true := by rw [idle7]; exact decide_eq_true h
  by_cases h8 : t.val % 9 = 8
  · rw [back_eq m c 7 t hi (by rw [back7]; exact decide_eq_true (Or.inr h8)), after7]
    simp only [before7 m c t.val t.isLt (by omega)]
    iintro ⟨%d, H⟩; iexact H
  · rw [idle_eq m c 7 t hi (by rw [back7]; exact decide_eq_false (by omega))]

theorem pass8 (c : Dev nD) (t : Fin cfg0.N) (h : t.val % 9 < 5) :
    (iprop(∃ d, owns (c : Thread nD τ) ((cfg0.win 8).stage (cfg0.slots t 8)) fullShare ((dats m 0 c).before 8 t d)) : sProp 𝕄) ⊢ (dats m 0 c).leavesExact 8 t := by
  rw [idle_eq m c 8 t (by rw [idle8]; exact decide_eq_true h) (by rw [back8]; exact decide_eq_false (by omega))]

/-! ## The body at a point -/

/-- What the body is handed at point `t`, -/
def given (c : Dev nD) (t : Fin cfg0.N) : sProp 𝕄 :=
  iprop((dats m 0 c).Φ t.castSucc ∗ (dats m 0 c).owesAt () t.castSucc
    ∗ (∃ d, owns (c : Thread nD τ) ((cfg0.win 0).stage (cfg0.slots t 0)) fullShare ((dats m 0 c).before 0 t d))
    ∗ (∃ d, owns (c : Thread nD τ) ((cfg0.win 1).stage (cfg0.slots t 1)) fullShare ((dats m 0 c).before 1 t d))
    ∗ (∃ d, owns (c : Thread nD τ) ((cfg0.win 2).stage (cfg0.slots t 2)) fullShare ((dats m 0 c).before 2 t d))
    ∗ (∃ d, owns (c : Thread nD τ) ((cfg0.win 3).stage (cfg0.slots t 3)) fullShare ((dats m 0 c).before 3 t d))
    ∗ (∃ d, owns (c : Thread nD τ) ((cfg0.win 4).stage (cfg0.slots t 4)) fullShare ((dats m 0 c).before 4 t d))
    ∗ (∃ d, owns (c : Thread nD τ) ((cfg0.win 5).stage (cfg0.slots t 5)) fullShare ((dats m 0 c).before 5 t d))
    ∗ (∃ d, owns (c : Thread nD τ) ((cfg0.win 6).stage (cfg0.slots t 6)) fullShare ((dats m 0 c).before 6 t d))
    ∗ (∃ d, owns (c : Thread nD τ) ((cfg0.win 7).stage (cfg0.slots t 7)) fullShare ((dats m 0 c).before 7 t d))
    ∗ (∃ d, owns (c : Thread nD τ) ((cfg0.win 8).stage (cfg0.slots t 8)) fullShare ((dats m 0 c).before 8 t d)))

/-- and what it hands back. -/
def handed (c : Dev nD) (t : Fin cfg0.N) : sProp 𝕄 :=
  iprop((dats m 0 c).Φ t.succ ∗ (dats m 0 c).owesAt () t.succ
    ∗ owns (c : Thread nD τ) ((cfg0.win 0).stage (cfg0.slots t 0)) fullShare ((dats m 0 c).after 0 t)
    ∗ owns (c : Thread nD τ) ((cfg0.win 1).stage (cfg0.slots t 1)) fullShare ((dats m 0 c).after 1 t)
    ∗ owns (c : Thread nD τ) ((cfg0.win 2).stage (cfg0.slots t 2)) fullShare ((dats m 0 c).after 2 t)
    ∗ owns (c : Thread nD τ) ((cfg0.win 3).stage (cfg0.slots t 3)) fullShare ((dats m 0 c).after 3 t)
    ∗ owns (c : Thread nD τ) ((cfg0.win 4).stage (cfg0.slots t 4)) fullShare ((dats m 0 c).after 4 t)
    ∗ owns (c : Thread nD τ) ((cfg0.win 5).stage (cfg0.slots t 5)) fullShare ((dats m 0 c).after 5 t)
    ∗ (dats m 0 c).leavesExact 6 t
    ∗ (dats m 0 c).leavesExact 7 t
    ∗ (dats m 0 c).leavesExact 8 t)

set_option maxHeartbeats 1600000 in
/-- The body at any point: the column says which triple applies, the untouched buffers pass. -/
theorem body_at (c : Dev nD) (t : Fin cfg0.N) :
    given m c t ⊢ wp frame (wpE (defs₀ (F := F)) Variants.none c none) Set.univ (bodyAt0 t) (fun _ => handed m c t) := by
  unfold given handed bodyAt0
  simp only [before0, before1, before2, before3, before4, before5]
  rw [show (dats m 0 c).owesAt () t.succ = (dats m 0 c).owesAt () t.castSucc from rfl,
    after0, after1, after2, after3, after4, after5,
    show (dats m 0 c).Φ t.castSucc = Phi m c t.val (Nat.le_of_lt t.isLt) from rfl,
    show (dats m 0 c).Φ t.succ = iprop(owns (c : Thread nD τ) scM fullShare (scr m c t.val t.isLt) ∗ (∃ r, prngReg c r)) from rfl]
  have n1 : ¬ t.val % 9 = 0 → ¬ k0_cond1 (grid0.coords t) = 1#1 := fun h h' => h ((is1 t).mp h')
  have n2 : ¬ t.val % 9 < 3 → ¬ k0_cond2 (grid0.coords t) = 1#1 := fun h h' => h ((is2 t).mp h')
  have n3 : ¬ t.val % 9 = 3 → ¬ k0_cond3 (grid0.coords t) = 1#1 := fun h h' => h ((is3 t).mp h')
  have n4 : ¬ t.val % 9 = 4 → ¬ k0_cond4 (grid0.coords t) = 1#1 := fun h h' => h ((is4 t).mp h')
  have n5 : ¬ 5 ≤ t.val % 9 → ¬ k0_cond5 (grid0.coords t) = 1#1 := fun h h' => h ((is5 t).mp h')
  by_cases h0 : t.val % 9 = 0
  · rw [live_eq m c 6 t (by rw [idle6]; exact decide_eq_false (by omega)), after6, att_new m c t (by omega), scr_first m c t h0]
    refine (sep_mono_left (Phi_any m c t.val _)).trans ?_
    rw [scoped_eq]
    iintro ⟨⟨HS, Hg⟩, Ho, ⟨%d0, H0⟩, ⟨%d1, H1⟩, ⟨%d2, H2⟩, ⟨%d3, H3⟩, ⟨%d4, H4⟩, ⟨%d5, H5⟩, H6, H7, H8⟩
    iapply (run_A c (grid0.coords t) _ _ _ _ _ _ _ _ _ _ _ _ _ _ _ _ _ _ _ _ ((is1 t).mpr h0) ((is2 t).mpr (by omega)) (n3 (by omega)) (n4 (by omega)) (n5 (by omega)) (blkAt m c 0 t) (blkAt m c 1 t) (blkAt m c 2 t) (blkAt m c 5 t) Set.univ _)
    isplitl [H0]; · iexact H0
    isplitl [H1]; · iexact H1
    isplitl [H2]; · iexact H2
    isplitl [H5]; · iexact H5
    isplitl [H6]; · icases H6 with ⟨%d, H6⟩; iexists _; iexact H6
    isplitl [HS]; · iexact HS
    iintro ⟨H0, H1, H2, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iapply (pass7 m c t (by omega)); iexact H7
    iapply (pass8 m c t (by omega)); iexact H8
  rw [Phi_kept m c t h0]
  by_cases h2 : t.val % 9 < 3
  · rw [live_eq m c 6 t (by rw [idle6]; exact decide_eq_false (by omega)), after6, att_new m c t (by omega)]
    iintro ⟨⟨HS, Hg⟩, Ho, ⟨%d0, H0⟩, ⟨%d1, H1⟩, ⟨%d2, H2⟩, ⟨%d3, H3⟩, ⟨%d4, H4⟩, ⟨%d5, H5⟩, H6, H7, H8⟩
    iapply (run_B c (grid0.coords t) _ _ _ _ _ _ _ _ _ _ _ _ _ _ _ _ _ _ _ _ (n1 h0) ((is2 t).mpr h2) (n3 (by omega)) (n4 (by omega)) (n5 (by omega)) (blkAt m c 2 t) (blkAt m c 5 t) _ Set.univ _)
    isplitl [H2]; · iexact H2
    isplitl [H5]; · iexact H5
    isplitl [H6]; · icases H6 with ⟨%d, H6⟩; iexists _; iexact H6
    isplitl [HS]; · iexact HS
    iintro ⟨H2, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iapply (pass7 m c t (by omega)); iexact H7
    iapply (pass8 m c t (by omega)); iexact H8
  by_cases h3 : t.val % 9 = 3
  · rw [live_eq m c 7 t (by rw [idle7]; exact decide_eq_false (by omega)), after7, lat_new3 m c t h3]
    iintro ⟨⟨HS, Hg⟩, Ho, ⟨%d0, H0⟩, ⟨%d1, H1⟩, ⟨%d2, H2⟩, ⟨%d3, H3⟩, ⟨%d4, H4⟩, ⟨%d5, H5⟩, H6, H7, H8⟩
    iapply (run_C c (grid0.coords t) _ _ _ _ _ _ _ _ _ _ _ _ _ _ _ _ _ _ _ _ (n1 h0) (n2 h2) ((is3 t).mpr h3) (n4 (by omega)) (n5 (by omega)) (blkAt m c 2 t) _ Set.univ _)
    isplitl [H2]; · iexact H2
    isplitl [H7]; · icases H7 with ⟨%d, H7⟩; iexists _; iexact H7
    isplitl [HS]; · iexact HS
    iintro ⟨H2, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (pass6 m c t (by omega)); iexact H6
    isplitl [H7]; · iexact H7
    iapply (pass8 m c t (by omega)); iexact H8
  by_cases h4 : t.val % 9 = 4
  · rw [live_eq m c 7 t (by rw [idle7]; exact decide_eq_false (by omega)), after7, lat_new4 m c t h4]
    iintro ⟨⟨HS, Hg⟩, Ho, ⟨%d0, H0⟩, ⟨%d1, H1⟩, ⟨%d2, H2⟩, ⟨%d3, H3⟩, ⟨%d4, H4⟩, ⟨%d5, H5⟩, H6, H7, H8⟩
    iapply (run_D c (grid0.coords t) _ _ _ _ _ _ _ _ _ _ _ _ _ _ _ _ _ _ _ _ (n1 h0) (n2 h2) (n3 h3) ((is4 t).mpr h4) (n5 (by omega)) (blkAt m c 3 t) _ Set.univ _)
    isplitl [H3]; · iexact H3
    isplitl [H7]; · icases H7 with ⟨%d, H7⟩; iexists _; iexact H7
    isplitl [HS]; · iexact HS
    iintro ⟨H3, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (pass6 m c t (by omega)); iexact H6
    isplitl [H7]; · iexact H7
    iapply (pass8 m c t (by omega)); iexact H8
  have h5 : 5 ≤ t.val % 9 := by omega
  rw [live_eq m c 8 t (by rw [idle8]; exact decide_eq_false (by omega)), after8]
  iintro ⟨⟨HS, Hg⟩, Ho, ⟨%d0, H0⟩, ⟨%d1, H1⟩, ⟨%d2, H2⟩, ⟨%d3, H3⟩, ⟨%d4, H4⟩, ⟨%d5, H5⟩, H6, H7, H8⟩
  iapply (run_E c (grid0.coords t) _ _ _ _ _ _ _ _ _ _ _ _ _ _ _ _ _ _ _ _ (n1 h0) (n2 h2) (n3 h3) (n4 h4) ((is5 t).mpr h5) (blkAt m c 4 t) _ Set.univ _)
  isplitl [H4]; · iexact H4
  isplitl [H8]; · icases H8 with ⟨%d, H8⟩; iexists _; iexact H8
  isplitl [HS]; · iexact HS
  iintro ⟨H4, H8, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (pass6 m c t (by omega)); iexact H6
  isplitl [H7]; · iapply (pass7 m c t (by omega)); iexact H7
  iexact H8

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (body_at m c t) rfl .rfl fun _ => .rfl

/-! ## The run and the frame -/

set_option backward.isDefEq.respectTransparency.types false in
/-- The run: every array ends at what the proof data says, and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := main_host m Variants.none) (hA := A_eq m)
    (hin := fun c => Idealize.SL.BI.Entails.refl _) (hout := fun c => (show Phi m c cfg0.N (Nat.le_refl _) ⊢ Pipeline.ΦA spec0 c from Phi_any m c _ _))

theorem run_main : θ_run defs (onTc (τ := τ) (main (F := F))) (s₀ m ρ) (Pipeline.FramePost cfgs (dats m) 0 (V m)) :=
  (θ_run defs _ _).mono (fun _ h => h.1) (run_quiescent m ρ)

/-- The frame: the arguments end unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨
      ((h.1 c).2 main_arg0 (Pipeline.mem_restRefs_of main_arg0 (by decide) (by decide))).trans (V_arg m c (Or.inl rfl)),
      ((h.1 c).2 main_arg1 (Pipeline.mem_restRefs_of main_arg1 (by decide) (by decide))).trans (V_arg m c (Or.inr (Or.inl rfl))),
      ((h.1 c).2 main_arg2 (Pipeline.mem_restRefs_of main_arg2 (by decide) (by decide))).trans (V_arg m c (Or.inr (Or.inr rfl)))⟩, h.2⟩) (run_quiescent m ρ)

end Cert.Kernel4Ideal.Proj

end
-- ==== Proof.ProjRef.lean ====
module

public import proofs.«01_k».proof.Proof.FfnRef
public import proofs.«01_k».proof.Proof.Gen.Reference4Ideal.Run
public import Idealize.ShloMosaic.Lib.Pointwise

/-! The input projection's reference, entry by entry: the norm's product with the weight, and where its columns go in the
three results. -/

@[expose] public section

set_option maxRecDepth 16384

noncomputable section

namespace Cert.Reference4Ideal.Proj

open Idealize.ShloMosaic Idealize.ShloMosaic.Tactic Idealize.SL.Sem Cert.Reference4Ideal Cert.Reference4Ideal.Gen
open Cert.Reference2Ideal.Ffn (nrm)

/-- An entry of the projection. -/
def prj (X : FVec Ideal S1x16384x2048 .f32) (G : FVec Ideal S2048 .f32) (W : FVec Ideal S2048x6432 .f32) (r : Fin 16384) (e : Fin 6432) : EReal :=
  ∑ d : Fin 2048, nrm (fun j => X (ix3 0 r j)) (G (ix1 d)) d * (W (ix2 d e) : EReal)

/-- The scale of the queries. -/
def sc : EReal := Ideal.div (Ideal.ofBits FTy.f32 1040187392#32) (Ideal.log (Ideal.ofBits FTy.f32 1073741824#32))

/-- The logistic function as the reference writes it. -/
def sgm (x : EReal) : EReal := Ideal.div 1 (1 + Ideal.exp (-x))

abbrev normed (X : FVec Ideal S1x16384x2048 .f32) (G : FVec Ideal S2048 .f32) : FVec Ideal S1x16384x2048 .f32 :=
  (mulf (mulf X (broadcastInDim S1x16384x2048 ![0, 1, 2] bcast_S1x16384x1_S1x16384x2048_0_1_2 (Host.rsqrt (addf (Host.divf (broadcastInDim S1x16384x1 ![0, 1] bcast_S1x16384_S1x16384x1_0_1 (Host.reduceAdd (mulf X X) (constant S_ .f32 0x00000000#32) reducesTo_S1x16384x2048_S1x16384_d2 h_S_)) (broadcastInDim S1x16384x1 ![] bcast_S_S1x16384x1 (constant S_ .f32 0x45000000#32))) (broadcastInDim S1x16384x1 ![] bcast_S_S1x16384x1 (constant S_ .f32 0x358637BD#32)))))) (broadcastInDim S1x16384x2048 ![0, 1, 2] bcast_S1x1x2048_S1x16384x2048_0_1_2 (broadcastInDim S1x1x2048 ![2] bcast_S2048_S1x1x2048_2 G)))

abbrev product (N : FVec Ideal S1x16384x2048 .f32) (W : FVec Ideal S2048x6432 .f32) : FVec Ideal S1x16384x6432 .f32 :=
  Host.dotGeneral dot_S1x16384x2048_S2048x6432_S1x16384x6432_2_0_01_1_n_n none N W

abbrev attR (P : FVec Ideal S1x16384x6432 .f32) : FVec Ideal S16384x1536 .bf16 :=
  truncf .bf16 (shapeCast _ ((concatenate S1x16384x1536 2 [⟨S1x16384x1024, ((mulf (extractStridedSlice S1x16384x1024 ![0, 0, 0] P slices_S1x16384x6432_S1x16384x1024_0_0_0) (broadcastInDim S1x16384x1024 ![] bcast_S_S1x16384x1024 (Host.divf (constant S_ .f32 0x3E000000#32) (Host.log (constant S_ .f32 0x40000000#32))))) : (⟨S1x16384x1024, .f32⟩ : BufTy).Contents (Elt Ideal))⟩, ⟨S1x16384x256, ((extractStridedSlice S1x16384x256 ![0, 0, 1024] P slices_S1x16384x6432_S1x16384x256_0_0_1024) : (⟨S1x16384x256, .f32⟩ : BufTy).Contents (Elt Ideal))⟩, ⟨S1x16384x256, ((extractStridedSlice S1x16384x256 ![0, 0, 1280] P slices_S1x16384x6432_S1x16384x256_0_0_1280) : (⟨S1x16384x256, .f32⟩ : BufTy).Contents (Elt Ideal))⟩] concatenates_S1x16384x1024_S1x16384x256_S1x16384x256_S1x16384x1536_d2 : (⟨S1x16384x1536, .f32⟩ : BufTy).Contents (Elt Ideal))) shapeCasts_S1x16384x1536_S16384x1536) bitsLt_bf16_f32

abbrev latR (P : FVec Ideal S1x16384x6432 .f32) : FVec Ideal S16384x1024 .f32 :=
  shapeCast _ ((concatenate S1x16384x1024 2 [⟨S1x16384x512, ((extractStridedSlice S1x16384x512 ![0, 0, 1536] P slices_S1x16384x6432_S1x16384x512_0_0_1536) : (⟨S1x16384x512, .f32⟩ : BufTy).Contents (Elt Ideal))⟩, ⟨S1x16384x256, ((extractStridedSlice S1x16384x256 ![0, 0, 2048] P slices_S1x16384x6432_S1x16384x256_0_0_2048) : (⟨S1x16384x256, .f32⟩ : BufTy).Contents (Elt Ideal))⟩, ⟨S1x16384x32, ((extractStridedSlice S1x16384x32 ![0, 0, 2304] P slices_S1x16384x6432_S1x16384x32_0_0_2304) : (⟨S1x16384x32, .f32⟩ : BufTy).Contents (Elt Ideal))⟩, ⟨S1x16384x32, ((concatenate S1x16384x32 2 [⟨S1x16384x16, (Host.negf (extractStridedSlice S1x16384x16 ![0, 0, 16] (extractStridedSlice S1x16384x32 ![0, 0, 2304] P slices_S1x16384x6432_S1x16384x32_0_0_2304) slices_S1x16384x32_S1x16384x16_0_0_16))⟩, ⟨S1x16384x16, (extractStridedSlice S1x16384x16 ![0, 0, 0] (extractStridedSlice S1x16384x32 ![0, 0, 2304] P slices_S1x16384x6432_S1x16384x32_0_0_2304) slices_S1x16384x32_S1x16384x16_0_0_0)⟩] concatenates_S1x16384x16_S1x16384x16_S1x16384x32_d2) : (⟨S1x16384x32, .f32⟩ : BufTy).Contents (Elt Ideal))⟩, ⟨S1x16384x192, ((broadcastInDim S1x16384x192 ![] bcast_S_S1x16384x192 (constant (F := Ideal) S_ .f32 0x00000000#32)) : (⟨S1x16384x192, .f32⟩ : BufTy).Contents (Elt Ideal))⟩] concatenates_S1x16384x512_S1x16384x256_S1x16384x32_S1x16384x32_S1x16384x192_S1x16384x1024_d2 : (⟨S1x16384x1024, .f32⟩ : BufTy).Contents (Elt Ideal))) shapeCasts_S1x16384x1024_S16384x1024

abbrev gateR (P : FVec Ideal S1x16384x6432 .f32) : FVec Ideal S16384x4096 .bf16 :=
  truncf .bf16 (shapeCast _ (concatenate S1x16384x4096 2 [⟨S1x16384x2048, (Host.divf (broadcastInDim S1x16384x2048 ![] bcast_S_S1x16384x2048 (constant S_ .f32 0x3F800000#32)) (addf (broadcastInDim S1x16384x2048 ![] bcast_S_S1x16384x2048 (constant S_ .f32 0x3F800000#32)) (Host.exp (Host.negf (extractStridedSlice S1x16384x2048 ![0, 0, 2336] P slices_S1x16384x6432_S1x16384x2048_0_0_2336)))))⟩, ⟨S1x16384x2048, (Host.divf (broadcastInDim S1x16384x2048 ![] bcast_S_S1x16384x2048 (constant S_ .f32 0x3F800000#32)) (addf (broadcastInDim S1x16384x2048 ![] bcast_S_S1x16384x2048 (constant S_ .f32 0x3F800000#32)) (Host.exp (Host.negf (extractStridedSlice S1x16384x2048 ![0, 0, 4384] P slices_S1x16384x6432_S1x16384x2048_0_0_4384)))))⟩] concatenates_S1x16384x2048_S1x16384x2048_S1x16384x4096_d2) shapeCasts_S1x16384x4096_S16384x4096) bitsLt_bf16_f32

theorem normed_at (X : FVec Ideal S1x16384x2048 .f32) (G : FVec Ideal S2048 .f32) (r : Fin 16384) (d : Fin 2048) :
    normed X G (ix3 0 r d) = nrm (fun j => X (ix3 0 r j)) (G (ix1 d)) d := by
  unfold nrm
  pointwise

theorem product_at (N : FVec Ideal S1x16384x2048 .f32) (W : FVec Ideal S2048x6432 .f32) (r : Fin 16384) (e : Fin 6432) :
    product N W (ix3 0 r e) = ∑ d : Fin 2048, (N (ix3 0 r d) : EReal) * (W (ix2 d e) : EReal) := by
  pointwise

theorem prj_at (X : FVec Ideal S1x16384x2048 .f32) (G : FVec Ideal S2048 .f32) (W : FVec Ideal S2048x6432 .f32) (r : Fin 16384) (e : Fin 6432) :
    product (normed X G) W (ix3 0 r e) = prj X G W r e := by
  refine (product_at _ W r e).trans ?_
  unfold prj
  exact Finset.sum_congr rfl fun d _ => congrArg (· * _) (normed_at X G r d)

theorem at_eq (P : FVec Ideal S1x16384x6432 .f32) (r : Fin 16384) (e e' : Fin 6432) (h : e.val = e'.val) : P (ix3 0 r e) = P (ix3 0 r e') := by
  rw [Fin.ext h]

section
variable (P : FVec Ideal S1x16384x6432 .f32) (r : Fin 16384)

theorem att_q (k : Fin 1024) : attR P (ix2 r (⟨k.val, by omega⟩ : Fin 1536)) = (P (ix3 0 r (⟨k.val, by omega⟩ : Fin 6432)) : EReal) * sc := by
  unfold sc
  pointwise
  try split_ifs
  all_goals first | (exfalso; omega) | exact at_eq P r _ _ (by dsimp only; omega) | exact congrArg (fun x : EReal => -x) (at_eq P r _ _ (by dsimp only; omega)) | rfl | skip
theorem att_k (k : Fin 256) : attR P (ix2 r (⟨1024 + k.val, by omega⟩ : Fin 1536)) = P (ix3 0 r (⟨1024 + k.val, by omega⟩ : Fin 6432)) := by
  pointwise
  try split_ifs
  all_goals first | (exfalso; omega) | exact at_eq P r _ _ (by dsimp only; omega) | exact congrArg (fun x : EReal => -x) (at_eq P r _ _ (by dsimp only; omega)) | rfl | skip
theorem att_v (k : Fin 256) : attR P (ix2 r (⟨1280 + k.val, by omega⟩ : Fin 1536)) = P (ix3 0 r (⟨1280 + k.val, by omega⟩ : Fin 6432)) := by
  pointwise
  try split_ifs
  all_goals first | (exfalso; omega) | exact at_eq P r _ _ (by dsimp only; omega) | exact congrArg (fun x : EReal => -x) (at_eq P r _ _ (by dsimp only; omega)) | rfl | skip
theorem lat_q (k : Fin 512) : latR P (ix2 r (⟨k.val, by omega⟩ : Fin 1024)) = P (ix3 0 r (⟨1536 + k.val, by omega⟩ : Fin 6432)) := by
  pointwise
  try split_ifs
  all_goals first | (exfalso; omega) | exact at_eq P r _ _ (by dsimp only; omega) | exact congrArg (fun x : EReal => -x) (at_eq P r _ _ (by dsimp only; omega)) | rfl | skip
theorem lat_kv (k : Fin 256) : latR P (ix2 r (⟨512 + k.val, by omega⟩ : Fin 1024)) = P (ix3 0 r (⟨2048 + k.val, by omega⟩ : Fin 6432)) := by
  pointwise
  try split_ifs
  all_goals first | (exfalso; omega) | exact at_eq P r _ _ (by dsimp only; omega) | exact congrArg (fun x : EReal => -x) (at_eq P r _ _ (by dsimp only; omega)) | rfl | skip
theorem lat_r (k : Fin 32) : latR P (ix2 r (⟨768 + k.val, by omega⟩ : Fin 1024)) = P (ix3 0 r (⟨2304 + k.val, by omega⟩ : Fin 6432)) := by
  pointwise
  try split_ifs
  all_goals first | (exfalso; omega) | exact at_eq P r _ _ (by dsimp only; omega) | exact congrArg (fun x : EReal => -x) (at_eq P r _ _ (by dsimp only; omega)) | rfl | skip
theorem lat_t1 (k : Fin 16) : latR P (ix2 r (⟨800 + k.val, by omega⟩ : Fin 1024)) = -(P (ix3 0 r (⟨2320 + k.val, by omega⟩ : Fin 6432)) : EReal) := by
  pointwise
  try split_ifs
  all_goals first | (exfalso; omega) | exact at_eq P r _ _ (by dsimp only; omega) | exact congrArg (fun x : EReal => -x) (at_eq P r _ _ (by dsimp only; omega)) | rfl | skip
theorem lat_t2 (k : Fin 16) : latR P (ix2 r (⟨816 + k.val, by omega⟩ : Fin 1024)) = P (ix3 0 r (⟨2304 + k.val, by omega⟩ : Fin 6432)) := by
  pointwise
  try split_ifs
  all_goals first | (exfalso; omega) | exact at_eq P r _ _ (by dsimp only; omega) | exact congrArg (fun x : EReal => -x) (at_eq P r _ _ (by dsimp only; omega)) | rfl | skip
theorem lat_0 (k : Fin 192) : latR P (ix2 r (⟨832 + k.val, by omega⟩ : Fin 1024)) = (0 : EReal) := by
  pointwise
  try split_ifs
  all_goals first | (exfalso; omega) | exact at_eq P r _ _ (by dsimp only; omega) | exact congrArg (fun x : EReal => -x) (at_eq P r _ _ (by dsimp only; omega)) | rfl | skip
theorem gate_a (k : Fin 2048) : gateR P (ix2 r (⟨k.val, by omega⟩ : Fin 4096)) = sgm (P (ix3 0 r (⟨2336 + k.val, by omega⟩ : Fin 6432))) := by
  unfold sgm
  pointwise
  try split_ifs
  all_goals first | (exfalso; omega) | exact at_eq P r _ _ (by dsimp only; omega) | exact congrArg (fun x : EReal => -x) (at_eq P r _ _ (by dsimp only; omega)) | rfl | skip
theorem gate_b (k : Fin 2048) : gateR P (ix2 r (⟨2048 + k.val, by omega⟩ : Fin 4096)) = sgm (P (ix3 0 r (⟨4384 + k.val, by omega⟩ : Fin 6432))) := by
  unfold sgm
  pointwise
  try split_ifs
  all_goals first | (exfalso; omega) | exact at_eq P r _ _ (by dsimp only; omega) | exact congrArg (fun x : EReal => -x) (at_eq P r _ _ (by dsimp only; omega)) | rfl | skip
end

variable (X : FVec Ideal S1x16384x2048 .f32) (G : FVec Ideal S2048 .f32) (W : FVec Ideal S2048x6432 .f32)

/-- The scale of a column of the attention's part. -/
def csc (j : Fin 1536) : EReal := if j.val < 1024 then sc else 1

/-- The first result: queries, keys and values of mixer A. -/
def attV (r : Fin 16384) (j : Fin 1536) : EReal := prj X G W r ⟨j.val, by omega⟩ * csc j

/-- The second result: mixer B's latents, its rotary key, the turned key, and zeros. -/
def latV (r : Fin 16384) (j : Fin 1024) : EReal :=
  if h : j.val < 800 then prj X G W r ⟨1536 + j.val, by omega⟩
  else if h : j.val < 816 then -prj X G W r ⟨1520 + j.val, by omega⟩
  else if h : j.val < 832 then prj X G W r ⟨1488 + j.val, by omega⟩
  else 0

/-- The third result: the gates. -/
def gateV (r : Fin 16384) (j : Fin 4096) : EReal := sgm (prj X G W r ⟨2336 + j.val, by omega⟩)

def attA : FVec Ideal S16384x1536 .bf16 := fun i => attV X G W (i 0) (i 1)
def latA : FVec Ideal S16384x1024 .f32 := fun i => latV X G W (i 0) (i 1)
def gateA : FVec Ideal S16384x4096 .bf16 := fun i => gateV X G W (i 0) (i 1)

theorem prj_eq (r : Fin 16384) (e e' : Fin 6432) (h : e.val = e'.val) : product (normed X G) W (ix3 0 r e) = prj X G W r e' := by
  rw [Fin.ext h]; exact prj_at X G W r e'

theorem reference_att : attR (product (normed X G) W) = attA X G W := by
  funext i
  obtain ⟨r, j, rfl⟩ : ∃ (r : Fin 16384) (j : Fin 1536), i = ix2 r j := ⟨i 0, i 1, by idx_vars i⟩
  show attR (product (normed X G) W) (ix2 r j) = attV X G W r j
  generalize hP : product (normed X G) W = P
  have hp : ∀ e e' : Fin 6432, e.val = e'.val → P (ix3 0 r e) = prj X G W r e' := fun e e' h => by rw [← hP]; exact prj_eq X G W r e e' h
  unfold attV csc
  by_cases h1 : j.val < 1024
  · rw [if_pos h1]
    refine Eq.trans ?_ ((att_q P r ⟨j.val, h1⟩).trans (congrArg (fun x : EReal => x * sc) (hp _ _ rfl)))
    exact congrArg (fun j => attR P (ix2 r j)) (Fin.ext rfl)
  rw [if_neg h1, mul_one]
  by_cases h2 : j.val < 1280
  · refine Eq.trans ?_ ((att_k P r ⟨j.val - 1024, by omega⟩).trans (hp _ _ (by dsimp only; omega)))
    exact congrArg (fun j => attR P (ix2 r j)) (Fin.ext (by dsimp only; omega))
  · refine Eq.trans ?_ ((att_v P r ⟨j.val - 1280, by omega⟩).trans (hp _ _ (by dsimp only; omega)))
    exact congrArg (fun j => attR P (ix2 r j)) (Fin.ext (by dsimp only; omega))

theorem reference_lat : latR (product (normed X G) W) = latA X G W := by
  funext i
  obtain ⟨r, j, rfl⟩ : ∃ (r : Fin 16384) (j : Fin 1024), i = ix2 r j := ⟨i 0, i 1, by idx_vars i⟩
  show latR (product (normed X G) W) (ix2 r j) = latV X G W r j
  generalize hP : product (normed X G) W = P
  have hp : ∀ e e' : Fin 6432, e.val = e'.val → P (ix3 0 r e) = prj X G W r e' := fun e e' h => by rw [← hP]; exact prj_eq X G W r e e' h
  unfold latV
  by_cases h1 : j.val < 800
  · rw [dif_pos h1]
    by_cases h2 : j.val < 512
    · refine Eq.trans ?_ ((lat_q P r ⟨j.val, h2⟩).trans (hp _ _ rfl))
      exact congrArg (fun j => latR P (ix2 r j)) (Fin.ext rfl)
    by_cases h3 : j.val < 768
    · refine Eq.trans ?_ ((lat_kv P r ⟨j.val - 512, by omega⟩).trans (hp _ _ (by dsimp only; omega)))
      exact congrArg (fun j => latR P (ix2 r j)) (Fin.ext (by dsimp only; omega))
    · refine Eq.trans ?_ ((lat_r P r ⟨j.val - 768, by omega⟩).trans (hp _ _ (by dsimp only; omega)))
      exact congrArg (fun j => latR P (ix2 r j)) (Fin.ext (by dsimp only; omega))
  rw [dif_neg h1]
  by_cases h2 : j.val < 816
  · rw [dif_pos h2]
    refine Eq.trans ?_ ((lat_t1 P r ⟨j.val - 800, by omega⟩).trans (congrArg (fun x : EReal => -x) (hp _ _ (by dsimp only; omega))))
    exact congrArg (fun j => latR P (ix2 r j)) (Fin.ext (by dsimp only; omega))
  rw [dif_neg h2]
  by_cases h3 : j.val < 832
  · rw [dif_pos h3]
    refine Eq.trans ?_ ((lat_t2 P r ⟨j.val - 816, by omega⟩).trans (hp _ _ (by dsimp only; omega)))
    exact congrArg (fun j => latR P (ix2 r j)) (Fin.ext (by dsimp only; omega))
  rw [dif_neg h3]
  refine Eq.trans ?_ (lat_0 P r ⟨j.val - 832, by omega⟩)
  exact congrArg (fun j => latR P (ix2 r j)) (Fin.ext (by dsimp only; omega))

theorem reference_gate : gateR (product (normed X G) W) = gateA X G W := by
  funext i
  obtain ⟨r, j, rfl⟩ : ∃ (r : Fin 16384) (j : Fin 4096), i = ix2 r j := ⟨i 0, i 1, by idx_vars i⟩
  show gateR (product (normed X G) W) (ix2 r j) = gateV X G W r j
  generalize hP : product (normed X G) W = P
  have hp : ∀ e e' : Fin 6432, e.val = e'.val → P (ix3 0 r e) = prj X G W r e' := fun e e' h => by rw [← hP]; exact prj_eq X G W r e e' h
  unfold gateV
  by_cases h1 : j.val < 2048
  · refine Eq.trans ?_ ((gate_a P r ⟨j.val, h1⟩).trans (congrArg sgm (hp _ _ rfl)))
    exact congrArg (fun j => gateR P (ix2 r j)) (Fin.ext rfl)
  · refine Eq.trans ?_ ((gate_b P r ⟨j.val - 2048, by omega⟩).trans (congrArg sgm (hp _ _ (by dsimp only; omega))))
    exact congrArg (fun j => gateR P (ix2 r j)) (Fin.ext (by dsimp only; omega))

end Cert.Reference4Ideal.Proj

end
-- ==== Proof.Sweep.lean ====
/- What one grid point of the attention sweep stores: the thirty-two key blocks are unrolled in the printed text, each
   with its own payload names; here the payloads of one text are made one, the loads from the score scratch are read
   back to the scores stored there, and the chain becomes a recursion over the blocks. -/
module

public import proofs.«01_k».proof.Proof.Gen.KernelIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Attn

open Idealize.ShloMosaic Idealize.ShloMosaic.Tactic Idealize.SL.Sem Cert.KernelIdeal Cert.KernelIdeal.Gen

variable {F : FTy → Type} [FloatOps F]

/-! ## Payloads with one text -/

theorem text6 : @k0_pay6 F _ = k0_pay5 := rfl
theorem text7 (s : Vec F S1x512x512 .f32) (v : Vec F S1x80x512 .bf16) : k0_pay7 s v = k0_pay9 (broadcast S80x512 (Scalar.ofBits .f32 0x00000000#32)) s v := rfl
theorem text8 : @k0_pay8 F _ = k0_pay5 := rfl
theorem text10 : @k0_pay10 F _ = k0_pay5 := rfl
theorem text12 : @k0_pay12 F _ = k0_pay5 := rfl
theorem text13 (a : FVec F S80x512 .f32) (s s' : Vec F S1x512x512 .f32) (v v' : Vec F S1x80x512 .bf16) :
    k0_pay13 a (k0_pay11 s) v s' v' = k0_pay9 (k0_pay9 a s v) s' v' := rfl
theorem text14 (k : Vec F S1x512x128 .bf16) (q : Vec F S128x512 .bf16) : k0_pay15 (k0_pay14 k q) = k0_pay5 k q := rfl
theorem text16 : @k0_pay16 F _ = k0_pay5 := rfl
theorem text17 (a : FVec F S80x512 .f32) (s s' : Vec F S1x512x512 .f32) (v v' : Vec F S1x80x512 .bf16) :
    k0_pay17 a s v s' v' = k0_pay9 (k0_pay9 a s v) s' v' := rfl
theorem text18 : @k0_pay18 F _ = k0_pay5 := rfl
theorem text19 : @k0_pay19 F _ = k0_pay9 := rfl
theorem text20 : @k0_pay20 F _ = k0_pay5 := rfl
theorem text22 : @k0_pay22 F _ = k0_pay5 := rfl
theorem text23 (a : FVec F S80x512 .f32) (s s' : Vec F S1x512x512 .f32) (v v' : Vec F S1x80x512 .bf16) :
    k0_pay23 a (k0_pay21 s) v s' v' = k0_pay9 (k0_pay9 a s v) s' v' := rfl
theorem text24 (k : Vec F S1x512x128 .bf16) (q : Vec F S128x512 .bf16) : k0_pay25 (k0_pay24 k q) = k0_pay5 k q := rfl
theorem text26 : @k0_pay26 F _ = k0_pay5 := rfl
theorem text27 (a : FVec F S80x512 .f32) (s s' : Vec F S1x512x512 .f32) (v v' : Vec F S1x80x512 .bf16) :
    k0_pay27 a s v s' v' = k0_pay9 (k0_pay9 a s v) s' v' := rfl
theorem text28 : @k0_pay28 F _ = k0_pay5 := rfl
theorem text29 : @k0_pay29 F _ = k0_pay9 := rfl
theorem text30 : @k0_pay30 F _ = k0_pay5 := rfl
theorem text32 : @k0_pay32 F _ = k0_pay5 := rfl
theorem text33 (a : FVec F S80x512 .f32) (s s' : Vec F S1x512x512 .f32) (v v' : Vec F S1x80x512 .bf16) :
    k0_pay33 a (k0_pay31 s) v s' v' = k0_pay9 (k0_pay9 a s v) s' v' := rfl
theorem text34 (k : Vec F S1x512x128 .bf16) (q : Vec F S128x512 .bf16) : k0_pay35 (k0_pay34 k q) = k0_pay5 k q := rfl
theorem text36 : @k0_pay36 F _ = k0_pay5 := rfl
theorem text37 (a : FVec F S80x512 .f32) (s s' : Vec F S1x512x512 .f32) (v v' : Vec F S1x80x512 .bf16) :
    k0_pay37 a s v s' v' = k0_pay9 (k0_pay9 a s v) s' v' := rfl
theorem text38 : @k0_pay38 F _ = k0_pay5 := rfl
theorem text39 : @k0_pay39 F _ = k0_pay9 := rfl
theorem text40 : @k0_pay40 F _ = k0_pay5 := rfl
theorem text42 : @k0_pay42 F _ = k0_pay5 := rfl
theorem text43 (a : FVec F S80x512 .f32) (s s' : Vec F S1x512x512 .f32) (v v' : Vec F S1x80x512 .bf16) :
    k0_pay43 a (k0_pay41 s) v s' v' = k0_pay9 (k0_pay9 a s v) s' v' := rfl
theorem text44 (k : Vec F S1x512x128 .bf16) (q : Vec F S128x512 .bf16) : k0_pay45 (k0_pay44 k q) = k0_pay5 k q := rfl
theorem text46 : @k0_pay46 F _ = k0_pay5 := rfl
theorem text47 (a : FVec F S80x512 .f32) (s s' : Vec F S1x512x512 .f32) (v v' : Vec F S1x80x512 .bf16) :
    k0_pay47 a s v s' v' = k0_pay9 (k0_pay9 a s v) s' v' := rfl
theorem text48 : @k0_pay48 F _ = k0_pay5 := rfl
theorem text49 : @k0_pay49 F _ = k0_pay9 := rfl
theorem text50 : @k0_pay50 F _ = k0_pay5 := rfl
theorem text52 : @k0_pay52 F _ = k0_pay5 := rfl
theorem text53 (a : FVec F S80x512 .f32) (s s' : Vec F S1x512x512 .f32) (v v' : Vec F S1x80x512 .bf16) :
    k0_pay53 a (k0_pay51 s) v s' v' = k0_pay9 (k0_pay9 a s v) s' v' := rfl
theorem text54 (k : Vec F S1x512x128 .bf16) (q : Vec F S128x512 .bf16) : k0_pay55 (k0_pay54 k q) = k0_pay5 k q := rfl
theorem text56 : @k0_pay56 F _ = k0_pay5 := rfl
theorem text57 (a : FVec F S80x512 .f32) (s s' : Vec F S1x512x512 .f32) (v v' : Vec F S1x80x512 .bf16) :
    k0_pay57 a s v s' v' = k0_pay9 (k0_pay9 a s v) s' v' := rfl
theorem text58 : @k0_pay58 F _ = k0_pay5 := rfl
theorem text59 : @k0_pay59 F _ = k0_pay9 := rfl
theorem text60 : @k0_pay60 F _ = k0_pay5 := rfl
theorem text62 : @k0_pay62 F _ = k0_pay5 := rfl
theorem text63 (a : FVec F S80x512 .f32) (s s' : Vec F S1x512x512 .f32) (v v' : Vec F S1x80x512 .bf16) :
    k0_pay63 a (k0_pay61 s) v s' v' = k0_pay9 (k0_pay9 a s v) s' v' := rfl
theorem text64 (k : Vec F S1x512x128 .bf16) (q : Vec F S128x512 .bf16) : k0_pay65 (k0_pay64 k q) = k0_pay5 k q := rfl
theorem text66 : @k0_pay66 F _ = k0_pay5 := rfl
theorem text67 (a : FVec F S80x512 .f32) (s s' : Vec F S1x512x512 .f32) (v v' : Vec F S1x80x512 .bf16) :
    k0_pay67 a s v s' v' = k0_pay9 (k0_pay9 a s v) s' v' := rfl

/-! ## The sweep as a recursion -/

/-- Key block `n` of the staged key plane: rows `512 n` to `512 n + 511`. -/
def keys (x2 : Vec F S1x16384x128 .bf16) (n : ℕ) : Vec F S1x512x128 .bf16 := fun j =>
  x2 (ix3 (0 : Fin 1) (⟨(512 * n + (j 1).val) % 16384, Nat.mod_lt _ (by decide)⟩ : Fin 16384) (j 2))

/-- Value block `n` of the staged value planes. -/
def vals (x3 : Vec F S32x80x512 .bf16) (n : ℕ) : Vec F S1x80x512 .bf16 := fun j =>
  x3 (ix3 (⟨n % 32, Nat.mod_lt _ (by decide)⟩ : Fin 32) (j 1) (j 2))

/-- The query scratch after its two stores: the query tile, then the sixteen rows from row 96 that take the shift. -/
def tile (x0 : Vec F S128x512 .bf16) (sh : Vec F S1x512 .f32) : Vec F S128x512 .bf16 :=
  View.readCov (Val := Elt F) (View.whole cc0_scratch1)
    [⟨Rect.unit ![96, 0] ![16, 512] inb_S128x512_S16x512_96_0, k0_pay3 sh⟩,
      ⟨Rect.unit ![0, 0] ![128, 512] inb_S128x512_S128x512_0_0, k0_pay2 x0⟩]
    (Rect.unit (s := S128x512) ![0, 0] ![128, 512] inb_S128x512_S128x512_0_0).toLoadRect

/-- The accumulator before key block `n`. -/
def acc (q : Vec F S128x512 .bf16) (x2 : Vec F S1x16384x128 .bf16) (x3 : Vec F S32x80x512 .bf16) : ℕ → FVec F S80x512 .f32
  | 0 => broadcast S80x512 (Scalar.ofBits .f32 0x00000000#32)
  | n + 1 => k0_pay9 (acc q x2 x3 n) (k0_pay5 (keys x2 n) q) (vals x3 n)

/-- The output block: the accumulator after the last key block, its first 64 rows over its row 64. -/
def outBlk (x0 : Vec F S128x512 .bf16) (sh : Vec F S1x512 .f32) (x2 : Vec F S1x16384x128 .bf16) (x3 : Vec F S32x80x512 .bf16) :
    FVec F S64x512 .bf16 :=
  k0_pay70 (acc (tile x0 sh) x2 x3 31) (k0_pay5 (keys x2 31) (tile x0 sh)) (vals x3 31)

/-- The first 64 keys of the plane, which the shift is taken over. -/
def keys64 (x2 : Vec F S1x16384x128 .bf16) : Vec F S1x64x128 .bf16 := fun j =>
  x2 (ix3 (0 : Fin 1) (⟨(j 1).val % 16384, Nat.mod_lt _ (by decide)⟩ : Fin 16384) (j 2))

theorem ld_keys (x2 : Vec F S1x16384x128 .bf16) (o : ℕ) (inb : ∀ a, (![0, o, 0] : Fin 3 → ℕ) a + (![1, 512, 128] : Fin 3 → ℕ) a ≤ S1x16384x128.size a)
    (h : 512 * (o / 512) = o) :
    View.ld (Val := Elt F) (S := S1x16384x128) (e' := .bf16) x2 (Rect.unit ![0, o, 0] ![1, 512, 128] inb) = keys x2 (o / 512) := by
  funext j
  have hb : o + 512 ≤ 16384 := inb 1
  have hj : (j 1).val < 512 := (j 1).isLt
  refine congrArg x2 (funext fun a => Fin.ext ?_)
  fin_cases a
  · show 0 + 1 * (j 0).val = 0
    have : (j 0).val < 1 := (j 0).isLt
    omega
  · show o + 1 * (j 1).val = (512 * (o / 512) + (j 1).val) % 16384
    omega
  · show 0 + 1 * (j 2).val = (j 2).val
    omega

theorem ld_vals (x3 : Vec F S32x80x512 .bf16) (o : ℕ) (inb : ∀ a, (![o, 0, 0] : Fin 3 → ℕ) a + (![1, 80, 512] : Fin 3 → ℕ) a ≤ S32x80x512.size a) :
    View.ld (Val := Elt F) (S := S32x80x512) (e' := .bf16) x3 (Rect.unit ![o, 0, 0] ![1, 80, 512] inb) = vals x3 o := by
  funext j
  have hb : o + 1 ≤ 32 := inb 0
  refine congrArg x3 (funext fun a => Fin.ext ?_)
  fin_cases a
  · show o + 1 * (j 0).val = o % 32
    have : (j 0).val < 1 := (j 0).isLt
    omega
  · show 0 + 1 * (j 1).val = (j 1).val
    omega
  · show 0 + 1 * (j 2).val = (j 2).val
    omega

theorem ld_keys64 (x2 : Vec F S1x16384x128 .bf16) (inb : ∀ a, (![0, 0, 0] : Fin 3 → ℕ) a + (![1, 64, 128] : Fin 3 → ℕ) a ≤ S1x16384x128.size a) :
    View.ld (Val := Elt F) (S := S1x16384x128) (e' := .bf16) x2 (Rect.unit ![0, 0, 0] ![1, 64, 128] inb) = keys64 x2 := by
  funext j
  have hj : (j 1).val < 64 := (j 1).isLt
  refine congrArg x2 (funext fun a => Fin.ext ?_)
  fin_cases a
  · show 0 + 1 * (j 0).val = 0
    have : (j 0).val < 1 := (j 0).isLt
    omega
  · show 0 + 1 * (j 1).val = (j 1).val % 16384
    omega
  · show 0 + 1 * (j 2).val = (j 2).val
    omega

variable (c : Dev nD) (t : Fin cfg0.N)

/-- The output block of a point that carries the shift from the point before. -/
theorem out_B (h0 : ¬cond0_0 (grid0.coords t)) (x0 x1 : Vec F S128x512 .bf16) (x2 : Vec F S1x16384x128 .bf16) (x3 : Vec F S32x80x512 .bf16) (xs : Vec F S1x512 .f32) :
    out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) h0 x0 x1 x2 x3 xs = outBlk x0 xs x2 x3 := by
  frame_out
  simp (disch := decide) only [View.readCov_skip, View.readCov_cons_toLoadRect, read_unread_whole, ld_keys, ld_vals, Nat.reduceDiv,
    text6, text7, text8, text10, text12, text13, text14, text16, text17, text18, text19, text20, text22, text23, text24, text26, text27, text28, text29, text30, text32, text33, text34, text36, text37, text38, text39, text40, text42, text43, text44, text46, text47, text48, text49, text50, text52, text53, text54, text56, text57, text58, text59, text60, text62, text63, text64, text66, text67]
  rfl

/-- The output block of a head's first point, which takes the shift from its own queries. -/
theorem out_A (h0 : cond0_0 (grid0.coords t)) (x0 x1 : Vec F S128x512 .bf16) (x2 : Vec F S1x16384x128 .bf16) (x3 : Vec F S32x80x512 .bf16) :
    out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) h0 x0 x1 x2 x3 = outBlk x0 (k0_pay1 (keys64 x2) x0) x2 x3 := by
  frame_out
  simp (disch := decide) only [View.readCov_skip, View.readCov_cons_toLoadRect, read_unread_whole, ld_keys, ld_vals, ld_keys64, Nat.reduceDiv,
    text6, text7, text8, text10, text12, text13, text14, text16, text17, text18, text19, text20, text22, text23, text24, text26, text27, text28, text29, text30, text32, text33, text34, text36, text37, text38, text39, text40, text42, text43, text44, text46, text47, text48, text49, text50, text52, text53, text54, text56, text57, text58, text59, text60, text62, text63, text64, text66, text67]
  rfl

/-- The shift left for the next point: taken from the next tile's queries. -/
theorem shift_B (h0 : ¬cond0_0 (grid0.coords t)) (x0 x1 : Vec F S128x512 .bf16) (x2 : Vec F S1x16384x128 .bf16) (x3 : Vec F S32x80x512 .bf16) (xs : Vec F S1x512 .f32) :
    sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) h0 x0 x1 x2 x3 xs = k0_pay1 (keys64 x2) x1 := by
  frame_out
  exact congrArg (fun k => k0_pay1 k x1) (ld_keys64 x2 _)

/-- The shift left for the next point by a head's first point. -/
theorem shift_A (h0 : cond0_0 (grid0.coords t)) (x0 x1 : Vec F S128x512 .bf16) (x2 : Vec F S1x16384x128 .bf16) (x3 : Vec F S32x80x512 .bf16) :
    sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) h0 x0 x1 x2 x3 = k0_pay1 (keys64 x2) x1 := by
  frame_out
  exact congrArg (fun k => k0_pay1 k x1) (ld_keys64 x2 _)

end Cert.KernelIdeal.Attn

end
-- ==== Proof.Block.lean ====
/- One grid point of the attention sweep at the ideal instance, over queries, keys and a shift that are real and any values:
   every score is real, and an accumulator entry is the sum of the values weighted by the scores' powers of two. -/
module

public import proofs.«01_k».proof.Proof.Sweep

@[expose] public section

set_option maxRecDepth 16384

noncomputable section

namespace Cert.KernelIdeal.Attn

open Idealize.ShloMosaic Idealize.ShloMosaic.Tactic Idealize.SL.Sem Cert.KernelIdeal Cert.KernelIdeal.Gen

/-- A finite sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of extended reals times a nonnegative real, term by term. -/
theorem sum_mul_real {ι : Type} (s : Finset ι) (f : ι → EReal) {x : ℝ} (hx : 0 ≤ x) : (∑ i ∈ s, f i) * (x : EReal) = ∑ i ∈ s, f i * (x : EReal) := by
  classical
  induction s using Finset.induction_on with
  | empty => simp
  | insert a s ha ih =>
    rw [Finset.sum_insert ha, Finset.sum_insert ha, EReal.right_distrib_of_nonneg_of_ne_top (EReal.coe_nonneg.mpr hx) (EReal.coe_ne_top x), ih]

/-- The larger of finitely many reals, taken in the extended reals from minus infinity, is real when there is one. -/
theorem fold_max_real {ι : Type} (s : Finset ι) (hs : s.Nonempty) (f : ι → ℝ) :
    ∃ M : ℝ, s.fold max (⊥ : EReal) (fun i => (f i : EReal)) = (M : EReal) := by
  classical
  induction hs using Finset.Nonempty.cons_induction with
  | singleton a => exact ⟨f a, by simp⟩
  | cons a s ha hs ih =>
    obtain ⟨M, hM⟩ := ih
    refine ⟨max (f a) M, ?_⟩
    rw [Finset.fold_cons, hM]
    exact (EReal.coe_strictMono.monotone.map_max).symm

/-- The query tile with the shift in row 96 and zeros in the fifteen rows after it. -/
def shifted (q : Fin 128 → ℝ) (σ : ℝ) (d : Fin 128) : ℝ :=
  if 96 ≤ d.val ∧ d.val < 112 then (if d.val = 96 then -σ else 0) else q d

theorem pay3_at (sh : FVec Ideal S1x512 .f32) (r : Fin 16) (b : Fin 512) :
    k0_pay3 (F := Ideal) sh (ix2 r b) = if r.val = 0 then 0 - sh (ix2 (0 : Fin 1) b) else 0 := by
  pointwise [k0_pay3]
  by_cases h : r = 0
  · subst h; rfl
  · have h' : ¬ r.val = 0 := fun e => h (Fin.ext e)
    rw [if_neg h']
    revert h
    generalize (0 - sh (ix2 (0 : Fin 1) b)) = z
    intro h
    have : IntOp.cmpi CmpIPredicate.eq (BitVec.ofNat 32 r.val) 0#32 = 0#1 := by
      revert h; revert r; decide
    rw [this]; rfl

theorem tile_at (x0 : FVec Ideal S128x512 .bf16) (sh : FVec Ideal S1x512 .f32) (q : Fin 128 → Fin 512 → ℝ) (σ : Fin 512 → ℝ)
    (hq : ∀ d b, x0 (ix2 d b) = (q d b : EReal)) (hs : ∀ b, sh (ix2 (0 : Fin 1) b) = (σ b : EReal)) (d : Fin 128) (b : Fin 512) :
    tile (F := Ideal) x0 sh (ix2 d b) = (shifted (fun d => q d b) (σ b) d : EReal) := by
  unfold tile
  rw [View.readCov_eq_canon']
  have hy : (Rect.unit (s := S128x512) ![0, 0] ![128, 512] inb_S128x512_S128x512_0_0).toLoadRect.idx (ix2 d b) = ix2 d b := by
    funext a; apply Fin.ext; fin_cases a
    · show 0 + 1 * d.val = d.val; omega
    · show 0 + 1 * b.val = b.val; omega
  dsimp only
  rw [hy]
  unfold shifted
  by_cases h : 96 ≤ d.val ∧ d.val < 112
  · have he : (ix2 d b : S128x512.Idx) = (Rect.unit (s := S128x512) ![96, 0] ![16, 512] inb_S128x512_S16x512_96_0).emb
        (ix2 (⟨d.val - 96, by omega⟩ : Fin 16) b) := by
      funext a; apply Fin.ext; fin_cases a
      · show d.val = 96 + 1 * (d.val - 96); omega
      · show b.val = 0 + 1 * b.val; omega
    rw [he, View.canon_cons_emb, pay3_at, hs, if_pos h]
    by_cases h2 : d.val = 96
    · rw [if_pos h2, if_pos (by show d.val - 96 = 0; omega), zero_sub, EReal.coe_neg]
    · rw [if_neg h2, if_neg (by show ¬ d.val - 96 = 0; omega), EReal.coe_zero]
  · rw [if_neg h, View.canon_cons_of_not_mem _ _ (by
      intro hm
      have := ((Rect.mem_set_unit (inb := inb_S128x512_S16x512_96_0)).mp hm) 0
      exact h ⟨this.1, this.2⟩)]
    have he : (ix2 d b : S128x512.Idx) = (Rect.unit (s := S128x512) ![0, 0] ![128, 512] inb_S128x512_S128x512_0_0).emb (ix2 d b) := by
      funext a; apply Fin.ext; fin_cases a
      · show d.val = 0 + 1 * d.val; omega
      · show b.val = 0 + 1 * b.val; omega
    refine Eq.trans (congrArg (View.canon _) he) ?_
    rw [View.canon_cons_emb, ← hq]
    pointwise [k0_pay2]

theorem score_at (k : FVec Ideal S1x512x128 .bf16) (q : FVec Ideal S128x512 .bf16) (i : Fin 512) (b : Fin 512) :
    k0_pay5 (F := Ideal) k q (ix3 (0 : Fin 1) i b) = ∑ d : Fin 128, k (ix3 (0 : Fin 1) i d) * q (ix2 d b) := by
  pointwise [k0_pay5]

theorem step_at (a : FVec Ideal S80x512 .f32) (s : FVec Ideal S1x512x512 .f32) (v : FVec Ideal S1x80x512 .bf16) (r : Fin 80) (b : Fin 512) :
    k0_pay9 (F := Ideal) a s v (ix2 r b) = a (ix2 r b) + ∑ i : Fin 512, v (ix3 (0 : Fin 1) r i) * Ideal.exp2 (s (ix3 (0 : Fin 1) i b)) := by
  pointwise [k0_pay9]
  rfl

theorem out_at (a : FVec Ideal S80x512 .f32) (s : FVec Ideal S1x512x512 .f32) (v : FVec Ideal S1x80x512 .bf16) (r : Fin 64) (b : Fin 512) :
    k0_pay70 (F := Ideal) a s v (ix2 r b)
      = Ideal.div (k0_pay9 (F := Ideal) a s v (ix2 (⟨r.val, by omega⟩ : Fin 80) b)) (k0_pay9 (F := Ideal) a s v (ix2 (64 : Fin 80) b)) := by
  pointwise [k0_pay70, k0_pay69, k0_pay68, k0_pay9]

theorem shift_at (k : FVec Ideal S1x64x128 .bf16) (q : FVec Ideal S128x512 .bf16) (b : Fin 512) :
    k0_pay1 (F := Ideal) k q (ix2 (0 : Fin 1) b)
      = Finset.univ.fold max (⊥ : EReal) fun i : Fin 64 => ∑ d : Fin 128, k (ix3 (0 : Fin 1) i d) * q (ix2 d b) := by
  pointwise [k0_pay1]
  rw [show Ideal.ofBits .f32 0xFF800000#32 = (⊥ : EReal) by simp [Ideal.ofBits, Ideal.ieee]]

/-- The score of key `n` (counted over the whole plane) against one shifted query. -/
def score (k : Fin 16384 → Fin 128 → ℝ) (q : Fin 128 → ℝ) (σ : ℝ) (j : Fin 16384) : ℝ := ∑ d : Fin 128, k j d * shifted q σ d

/-- Key `i` of block `n`. -/
def keyOf (n : ℕ) (i : Fin 512) : Fin 16384 := ⟨(512 * n + i.val) % 16384, Nat.mod_lt _ (by decide)⟩

/-- The accumulator's row `r` over the first `n` key blocks: any values, weighted by real powers of two. -/
def accR (k : Fin 16384 → Fin 128 → ℝ) (v : Fin 32 → Fin 80 → Fin 512 → EReal) (q : Fin 128 → ℝ) (σ : ℝ) (r : Fin 80) (n : ℕ) : EReal :=
  ∑ m ∈ Finset.range n, ∑ i : Fin 512, v ⟨m % 32, Nat.mod_lt _ (by decide)⟩ r i * (Real.rpow 2 (score k q σ (keyOf m i)) : EReal)

section
variable (x0 : FVec Ideal S128x512 .bf16) (sh : FVec Ideal S1x512 .f32) (x2 : FVec Ideal S1x16384x128 .bf16) (x3 : FVec Ideal S32x80x512 .bf16)
  (q : Fin 128 → Fin 512 → ℝ) (σ : Fin 512 → ℝ) (k : Fin 16384 → Fin 128 → ℝ) (v : Fin 32 → Fin 80 → Fin 512 → EReal)

theorem step_real (hq : ∀ d b, x0 (ix2 d b) = (q d b : EReal)) (hs : ∀ b, sh (ix2 (0 : Fin 1) b) = (σ b : EReal))
    (hk : ∀ j d, x2 (ix3 (0 : Fin 1) j d) = (k j d : EReal)) (hv : ∀ n r i, x3 (ix3 n r i) = v n r i)
    (a : FVec Ideal S80x512 .f32) (n : ℕ) (r : Fin 80) (b : Fin 512) (ha : a (ix2 r b) = accR k v (fun d => q d b) (σ b) r n) :
    k0_pay9 (F := Ideal) a (k0_pay5 (F := Ideal) (keys (F := Ideal) x2 n) (tile (F := Ideal) x0 sh)) (vals (F := Ideal) x3 n) (ix2 r b)
      = accR k v (fun d => q d b) (σ b) r (n + 1) := by
  have hscore : ∀ i : Fin 512, k0_pay5 (F := Ideal) (keys (F := Ideal) x2 n) (tile (F := Ideal) x0 sh) (ix3 (0 : Fin 1) i b)
      = (score k (fun d => q d b) (σ b) (keyOf n i) : EReal) := fun i => by
    rw [score_at]
    unfold score
    rw [coe_sum]
    refine Finset.sum_congr rfl fun d _ => ?_
    rw [tile_at x0 sh q σ hq hs, EReal.coe_mul]
    exact congrArg (· * _) (hk (keyOf n i) d)
  rw [step_at, ha, show accR k v (fun d => q d b) (σ b) r (n + 1) = accR k v (fun d => q d b) (σ b) r n
      + ∑ i : Fin 512, v ⟨n % 32, Nat.mod_lt _ (by decide)⟩ r i * (Real.rpow 2 (score k (fun d => q d b) (σ b) (keyOf n i)) : EReal)
    from Finset.sum_range_succ _ n]
  refine congrArg (_ + ·) (Finset.sum_congr rfl fun i _ => ?_)
  rw [hscore, Ideal.exp2_coe]
  exact congrArg (· * _) (hv _ r i)

theorem acc_real (hq : ∀ d b, x0 (ix2 d b) = (q d b : EReal)) (hs : ∀ b, sh (ix2 (0 : Fin 1) b) = (σ b : EReal))
    (hk : ∀ j d, x2 (ix3 (0 : Fin 1) j d) = (k j d : EReal)) (hv : ∀ n r i, x3 (ix3 n r i) = v n r i) (n : ℕ) (r : Fin 80) (b : Fin 512) :
    acc (F := Ideal) (tile (F := Ideal) x0 sh) x2 x3 n (ix2 r b) = accR k v (fun d => q d b) (σ b) r n := by
  induction n with
  | zero =>
    show Ideal.ofBits .f32 0x00000000#32 = _
    simp [accR]
  | succ n ih => exact step_real x0 sh x2 x3 q σ k v hq hs hk hv _ n r b ih

/-- What a point stores at row `r`, column `b` of its block is the quotient of two sums over all keys. -/
theorem outBlk_quot (hq : ∀ d b, x0 (ix2 d b) = (q d b : EReal)) (hs : ∀ b, sh (ix2 (0 : Fin 1) b) = (σ b : EReal))
    (hk : ∀ j d, x2 (ix3 (0 : Fin 1) j d) = (k j d : EReal)) (hv : ∀ n r i, x3 (ix3 n r i) = v n r i) (r : Fin 64) (b : Fin 512) :
    outBlk (F := Ideal) x0 sh x2 x3 (ix2 r b)
      = Ideal.div (accR k v (fun d => q d b) (σ b) ⟨r.val, by omega⟩ 32) (accR k v (fun d => q d b) (σ b) 64 32) := by
  unfold outBlk
  rw [out_at, step_real x0 sh x2 x3 q σ k v hq hs hk hv _ 31 _ b (acc_real x0 sh x2 x3 q σ k v hq hs hk hv 31 _ b),
    step_real x0 sh x2 x3 q σ k v hq hs hk hv _ 31 _ b (acc_real x0 sh x2 x3 q σ k v hq hs hk hv 31 _ b)]

/-- The shift a point takes from queries and keys that are real is real. -/
theorem shift_real (hq : ∀ d b, x0 (ix2 d b) = (q d b : EReal)) (hk : ∀ j d, x2 (ix3 (0 : Fin 1) j d) = (k j d : EReal)) (b : Fin 512) :
    ∃ M : ℝ, k0_pay1 (F := Ideal) (keys64 (F := Ideal) x2) x0 (ix2 (0 : Fin 1) b) = (M : EReal) := by
  rw [shift_at]
  obtain ⟨M, hM⟩ := fold_max_real (Finset.univ : Finset (Fin 64)) Finset.univ_nonempty
    (fun i => ∑ d : Fin 128, k ⟨i.val % 16384, Nat.mod_lt _ (by decide)⟩ d * q d b)
  refine ⟨M, ?_⟩
  rw [← hM]
  refine congrArg (fun f => Finset.univ.fold max (⊥ : EReal) f) (funext fun i => ?_)
  rw [coe_sum]
  refine Finset.sum_congr rfl fun d _ => ?_
  rw [hq, EReal.coe_mul]
  exact congrArg (· * _) (hk _ d)

end

end Cert.KernelIdeal.Attn

end
-- ==== Proof.ProjValue.lean ====
module

public import proofs.«01_k».proof.Proof.ProjFrame
public import proofs.«01_k».proof.Proof.ProjRef
public import proofs.«01_k».proof.Proof.Block
public import Idealize.ShloMosaic.Lib.Pipeline.ValueKit
public import Idealize.ShloMosaic.Lib.StableHlo.RunRead

/-! What the input projection's kernel computes over the extended reals. -/

@[expose] public section

set_option maxRecDepth 16384

noncomputable section

namespace Cert.Kernel4Ideal.Proj

open Idealize.ShloMosaic Idealize.ShloMosaic.Tactic Idealize.SL.Sem Cert.Kernel4Ideal Cert.Kernel4Ideal.Gen
open Cert.Reference2Ideal.Ffn (nrm)
open Cert.Reference4Ideal.Proj (prj sc sgm csc attV latV gateV)

variable (m : (ℓ : Loc nD τ sig) → Buf (Elt Ideal) ℓ) (c : Dev nD)

/-- The arguments. -/
abbrev aX : FVec Ideal S1x16384x2048 .f32 := m ((c.tc : Thread nD τ).loc main_arg0)
abbrev aG : FVec Ideal S2048 .f32 := m ((c.tc : Thread nD τ).loc main_arg1)
abbrev aW : FVec Ideal S2048x6432 .f32 := m ((c.tc : Thread nD τ).loc main_arg2)

/-- Where each window's block lies at a grid point. -/
theorem idx : ∀ t : Fin cfg0.N, win0_0.index t = ![t.val / 9, 0] ∧ win0_1.index t = ![0, 0] ∧ win0_2.index t = ![min (t.val % 9) 3, 0]
    ∧ win0_3.index t = ![0, 0] ∧ win0_4.index t = ![t.val % 9 - 5, 0] ∧ win0_5.index t = ![0, min (t.val % 9) 2]
    ∧ win0_6.index t = ![t.val / 9, min (t.val % 9) 2] ∧ win0_7.index t = ![t.val / 9, min (t.val % 9 - 3) 1]
    ∧ win0_8.index t = ![t.val / 9, t.val % 9 - 5] :=
  (by decide +kernel : ∀ t : Fin grid0.N, _)

/-! ## The operands, as the host leaves them -/

theorem x_at (r : Fin 16384) (d : Fin 2048) : V m c main_v19 (ix2 r d) = aX m c (ix3 0 r d) := by
  unfold V
  after_reads_simp
  pointwise
theorem g_at (d : Fin 2048) : V m c main_v20 (ix2 0 d) = aG m c (ix1 d) := by
  unfold V
  after_reads_simp
  pointwise
theorem wa_at (e : Fin 2048) (d : Fin 2048) : V m c main_v2 (ix2 e d) = aW m c (ix2 d (⟨e.val, by omega⟩ : Fin 6432)) := by
  unfold V
  after_reads_simp
  pointwise
theorem wg_at (e : Fin 4096) (d : Fin 2048) : V m c main_v13 (ix2 e d) = aW m c (ix2 d (⟨2336 + e.val, by omega⟩ : Fin 6432)) := by
  unfold V
  after_reads_simp
  pointwise
/-- A row of the latent weight: latents and rotary key, then the turned key with its sign, then zeros. -/
def wrow (W : FVec Ideal S2048x6432 .f32) (b : Fin 512) (d : Fin 2048) : EReal :=
  if h : b.val < 288 then W (ix2 d (⟨2048 + b.val, by omega⟩ : Fin 6432))
  else if h : b.val < 304 then -(W (ix2 d (⟨2032 + b.val, by omega⟩ : Fin 6432)) : EReal)
  else if h : b.val < 320 then W (ix2 d (⟨2000 + b.val, by omega⟩ : Fin 6432))
  else 0

theorem col_eq (W : FVec Ideal S2048x6432 .f32) (d : Fin 2048) (e e' : Fin 6432) (h : e.val = e'.val) : W (ix2 d e) = W (ix2 d e') := by
  rw [Fin.ext h]

section
variable (W : FVec Ideal S2048x6432 .f32) (b : Fin 512) (d : Fin 2048)
theorem wrow_plain (h : b.val < 288) : wrow W b d = W (ix2 d (⟨2048 + b.val, by omega⟩ : Fin 6432)) := dif_pos h
theorem wrow_neg (h : ¬b.val < 288) (h' : b.val < 304) : wrow W b d = -(W (ix2 d (⟨2032 + b.val, by omega⟩ : Fin 6432)) : EReal) :=
  (dif_neg h).trans (dif_pos h')
theorem wrow_turned (h : ¬b.val < 304) (h' : b.val < 320) : wrow W b d = W (ix2 d (⟨2000 + b.val, by omega⟩ : Fin 6432)) :=
  (dif_neg (show ¬b.val < 288 by omega)).trans ((dif_neg h).trans (dif_pos h'))
theorem wrow_zero (h : ¬b.val < 320) : wrow W b d = 0 :=
  (dif_neg (show ¬b.val < 288 by omega)).trans ((dif_neg (show ¬b.val < 304 by omega)).trans (dif_neg h))
end

theorem wb_at (b : Fin 512) (d : Fin 2048) : V m c main_v11 (ix2 b d) = wrow (aW m c) b d := by
  unfold V
  after_reads_simp
  pointwise
  after_reads_simp
  pointwise
  split_ifs
  all_goals first
    | (refine Eq.trans ?_ (wrow_plain (aW m c) b d (by omega)).symm; rfl)
    | (refine Eq.trans ?_ (wrow_plain (aW m c) b d (by omega)).symm; exact col_eq (aW m c) d _ _ (by dsimp only; omega))
    | (refine Eq.trans ?_ (wrow_neg (aW m c) b d (by omega) (by omega)).symm; exact congrArg (fun x : EReal => -x) (col_eq (aW m c) d _ _ (by dsimp only; omega)))
    | (refine Eq.trans ?_ (wrow_turned (aW m c) b d (by omega) (by omega)).symm; exact col_eq (aW m c) d _ _ (by dsimp only; omega))
    | (refine Eq.trans ?_ (wrow_zero (aW m c) b d (by omega)).symm; rfl)
    | (exfalso; omega)

theorem one_word : Ideal.ofBits FTy.f32 1065353216#32 = (1 : EReal) := by
  simp [Ideal.ofBits, Ideal.ieee, -EReal.coe_mul]
  norm_num

theorem cs_at (j : Fin 1536) : V m c main_v18 (ix2 0 j) = csc j := by
  unfold V
  after_reads_simp
  pointwise
  unfold csc sc
  split_ifs
  all_goals first | rfl | exact one_word | skip

/-! ## The blocks -/

/-- The row of the array that row `a` of a point's block is. -/
def row (n : ℕ) (hn : n < cfg0.N) (a : Fin 1024) : Fin 16384 := ⟨n / 9 * 1024 + a.val, by
  have hN : n < 144 := lt_of_lt_of_eq hn N_0
  omega⟩

section
variable (t : Fin cfg0.N)

theorem blk_x (a : Fin 1024) (d : Fin 2048) : blkAt m c 0 t (ix2 a d) = aX m c (ix3 0 (row t.val t.isLt a) d) := by
  refine Eq.trans ?_ (x_at m c _ d)
  unfold row
  blk_ext [blkAt, idx t]
theorem blk_g (d : Fin 2048) : blkAt m c 1 t (ix2 0 d) = aG m c (ix1 d) := by
  refine Eq.trans ?_ (g_at m c d)
  blk_ext [blkAt, idx t]
theorem blk_wa (b : Fin 512) (d : Fin 2048) (e : Fin 2048) (he : e.val = min (t.val % 9) 3 * 512 + b.val) :
    blkAt m c 2 t (ix2 b d) = aW m c (ix2 d (⟨e.val, by omega⟩ : Fin 6432)) := by
  refine Eq.trans ?_ (wa_at m c e d)
  blk_ext [blkAt, idx t]
theorem blk_wb (b : Fin 512) (d : Fin 2048) : blkAt m c 3 t (ix2 b d) = wrow (aW m c) b d := by
  refine Eq.trans ?_ (wb_at m c b d)
  blk_ext [blkAt, idx t]
theorem blk_wg (b : Fin 1024) (d : Fin 2048) (e : Fin 4096) (he : e.val = (t.val % 9 - 5) * 1024 + b.val) :
    blkAt m c 4 t (ix2 b d) = aW m c (ix2 d (⟨2336 + e.val, by omega⟩ : Fin 6432)) := by
  refine Eq.trans ?_ (wg_at m c e d)
  blk_ext [blkAt, idx t]
theorem blk_cs (b : Fin 512) (j : Fin 1536) (hj : j.val = min (t.val % 9) 2 * 512 + b.val) : blkAt m c 5 t (ix2 0 b) = csc j := by
  refine Eq.trans ?_ (cs_at m c j)
  blk_ext [blkAt, idx t]
end

/-! ## What the body stores -/

theorem pay1_at (x : Vec Ideal S256x2048 .f32) (g : Vec Ideal S1x2048 .f32) (a : Fin 256) (d : Fin 2048) :
    k0_pay1 x g (ix2 a d) = nrm (fun l => x (ix2 a l)) (g (ix2 0 d)) d := by
  unfold nrm
  pointwise [k0_pay1]
theorem pay2_at (h : Vec Ideal S1024x2048 .bf16) (w : Vec Ideal S512x2048 .bf16) (s : Vec Ideal S1x512 .f32) (a : Fin 1024) (b : Fin 512) :
    k0_pay2 h w s (ix2 a b) = (∑ d : Fin 2048, (h (ix2 a d) : EReal) * (w (ix2 b d) : EReal)) * (s (ix2 0 b) : EReal) := by
  pointwise [k0_pay2]
theorem pay3_at (h : Vec Ideal S1024x2048 .bf16) (w : Vec Ideal S512x2048 .bf16) (a : Fin 1024) (b : Fin 512) :
    k0_pay3 h w (ix2 a b) = ∑ d : Fin 2048, (h (ix2 a d) : EReal) * (w (ix2 b d) : EReal) := by
  pointwise [k0_pay3]
theorem pay4_at (h : Vec Ideal S1024x2048 .bf16) (w : Vec Ideal S512x2048 .bf16) (a : Fin 1024) (b : Fin 512) :
    k0_pay4 h w (ix2 a b) = ∑ d : Fin 2048, (h (ix2 a d) : EReal) * (w (ix2 b d) : EReal) := by
  pointwise [k0_pay4]
theorem pay5_at (h : Vec Ideal S1024x2048 .bf16) (w : Vec Ideal S1024x2048 .bf16) (a b : Fin 1024) :
    k0_pay5 h w (ix2 a b) = sgm (∑ d : Fin 2048, (h (ix2 a d) : EReal) * (w (ix2 b d) : EReal)) := by
  unfold sgm
  pointwise [k0_pay5]
  rfl

theorem rows_at (x : Vec Ideal S1024x2048 .f32) (g : Vec Ideal S1x2048 .f32) (a : Fin 1024) (d : Fin 2048) :
    rows x g (ix2 a d) = nrm (fun l => x (ix2 a l)) (g (ix2 0 d)) d := by
  unfold rows
  refine (pay1_at _ _ _ _).trans ?_
  refine congrArg (fun f => nrm f (g (ix2 0 d)) d) (funext fun l => congrArg x ?_)
  refine congrArg (fun i : Fin 1024 => (ix2 i l : S1024x2048.Idx)) (Fin.ext ?_)
  show 256 * (a.val / 256) + a.val % 256 = a.val
  omega

/-- An entry of the norm of the rows. -/
def hrow (r : Fin 16384) (d : Fin 2048) : EReal := nrm (fun l => aX m c (ix3 0 r l)) (aG m c (ix1 d)) d

/-- The scratch holds the norm of the point's rows. -/
theorem scr_at : ∀ (n : ℕ) (hn : n < cfg0.N) (a : Fin 1024) (d : Fin 2048), scr m c n hn (ix2 a d) = hrow m c (row n hn a) d := by
  have new : ∀ (t : Fin cfg0.N) (a : Fin 1024) (d : Fin 2048), t.val % 9 = 0 → scr m c t.val t.isLt (ix2 a d) = hrow m c (row t.val t.isLt a) d := by
    intro t a d h
    rw [scr_first m c t h]
    refine (rows_at _ _ a d).trans ?_
    unfold hrow
    exact congrArg₂ (fun f g => nrm f g d) (funext fun l => blk_x m c t a l) (blk_g m c t d)
  intro n
  induction n with
  | zero => intro hn a d; exact new ⟨0, hn⟩ a d rfl
  | succ n ih =>
    intro hn a d
    by_cases h : (n + 1) % 9 = 0
    · exact new ⟨n + 1, hn⟩ a d h
    · rw [scr_next m c n hn h, ih (Nat.lt_of_succ_lt hn) a d]
      refine congrArg (fun r => hrow m c r d) (Fin.ext ?_)
      show n / 9 * 1024 + a.val = (n + 1) / 9 * 1024 + a.val
      omega

/-- A row's product with a column of the weight. -/
theorem dot_at (n : ℕ) (hn : n < cfg0.N) (a : Fin 1024) (f : Fin 2048 → EReal) (e : Fin 6432) (hf : ∀ d, f d = aW m c (ix2 d e)) :
    (∑ d : Fin 2048, (scr m c n hn (ix2 a d) : EReal) * f d) = prj (aX m c) (aG m c) (aW m c) (row n hn a) e := by
  unfold prj
  exact Finset.sum_congr rfl fun d _ => congrArg₂ (fun x y : EReal => x * y) (scr_at m c n hn a d) (hf d)

/-! ## The attention's part -/

theorem att_at : ∀ (n : ℕ) (hn : n < cfg0.N) (a : Fin 1024) (b : Fin 512) (j : Fin 1536), j.val = min (n % 9) 2 * 512 + b.val →
    att m c n hn (ix2 a b) = attV (aX m c) (aG m c) (aW m c) (row n hn a) j := by
  have new : ∀ (t : Fin cfg0.N) (a : Fin 1024) (b : Fin 512) (j : Fin 1536), j.val = min (t.val % 9) 2 * 512 + b.val → t.val % 9 < 3 →
      att m c t.val t.isLt (ix2 a b) = attV (aX m c) (aG m c) (aW m c) (row t.val t.isLt a) j := by
    intro t a b j hj h
    rw [att_new m c t h]
    refine (pay2_at _ _ _ a b).trans ?_
    unfold attV
    refine congrArg₂ (fun x y : EReal => x * y) (dot_at m c _ _ a _ _ fun d => ?_) (blk_cs m c t b j hj)
    exact blk_wa m c t b d ⟨j.val, by omega⟩ (by dsimp only; omega)
  intro n
  induction n with
  | zero => intro hn a b j hj; exact new ⟨0, hn⟩ a b j hj (by show 0 % 9 < 3; decide)
  | succ n ih =>
    intro hn a b j hj
    by_cases h : (n + 1) % 9 < 3
    · exact new ⟨n + 1, hn⟩ a b j hj h
    · rw [att_next m c n hn (by omega), ih (Nat.lt_of_succ_lt hn) a b j (by omega)]
      refine congrArg (fun r => attV (aX m c) (aG m c) (aW m c) r j) (Fin.ext ?_)
      show n / 9 * 1024 + a.val = (n + 1) / 9 * 1024 + a.val
      omega

/-! ## The gates -/

theorem gate_at (t : Fin cfg0.N) (a b : Fin 1024) (j : Fin 4096) (hj : j.val = (t.val % 9 - 5) * 1024 + b.val) :
    k0_pay5 (scr m c t.val t.isLt) (blkAt m c 4 t) (ix2 a b) = gateV (aX m c) (aG m c) (aW m c) (row t.val t.isLt a) j := by
  refine (pay5_at _ _ a b).trans ?_
  unfold gateV
  exact congrArg sgm (dot_at m c _ _ a _ _ fun d => blk_wg m c t b d j hj)

/-! ## The latents' part -/

/-- A sum of negated reals. -/
theorem sum_neg (h w : Fin 2048 → EReal) (hr : ∀ d, ∃ r : ℝ, h d = (r : EReal)) (wr : ∀ d, ∃ r : ℝ, w d = (r : EReal)) :
    (∑ d : Fin 2048, h d * -(w d)) = -∑ d : Fin 2048, h d * w d := by
  choose f hf using hr
  choose g hg using wr
  have e1 : ∀ d, h d * -(w d) = ((-(f d * g d) : ℝ) : EReal) := fun d => by
    rw [hf d, hg d, ← EReal.coe_neg, ← EReal.coe_mul, mul_neg]
  have e2 : ∀ d, h d * w d = ((f d * g d : ℝ) : EReal) := fun d => by
    rw [hf d, hg d, ← EReal.coe_mul]
  rw [Finset.sum_congr rfl fun d _ => e1 d, Finset.sum_congr rfl fun d _ => e2 d, ← Cert.KernelIdeal.Attn.coe_sum, ← Cert.KernelIdeal.Attn.coe_sum,
    ← EReal.coe_neg, Finset.sum_neg_distrib]

/-- The mean's divisor. -/
theorem width_word : Ideal.ofBits FTy.f32 0x45000000#32 = ((2048 : ℝ) : EReal) := by
  simp [Ideal.ofBits, Ideal.ieee, -EReal.coe_mul]
  norm_num

/-- The norm's small constant is a positive real. -/
theorem eps_word : ∃ r : ℝ, 0 < r ∧ Ideal.ofBits FTy.f32 0x358637BD#32 = (r : EReal) := by
  refine ⟨_, ?_, by simp [Ideal.ofBits, Ideal.ieee, -EReal.coe_mul]; rfl⟩
  norm_num

/-- The reciprocal root of a positive real. -/
theorem rsqrt_real (p : ℝ) (hp : 0 < p) : Ideal.rsqrt (p : EReal) = (((Real.sqrt p)⁻¹ : ℝ) : EReal) :=
  (if_neg (not_lt.mpr hp.le)).trans (if_neg hp.ne')

/-- The norm of a row of reals is real. -/
theorem nrm_of_real (x : Fin 2048 → EReal) (g : EReal) (d : Fin 2048) (hx : ∀ l, ∃ r : ℝ, x l = (r : EReal)) (hg : ∃ r : ℝ, g = (r : EReal)) :
    ∃ r : ℝ, nrm x g d = (r : EReal) := by
  choose f hf using hx
  obtain ⟨γ, hγ⟩ := hg
  obtain ⟨ε, h0, hε⟩ := eps_word
  have hs : (∑ l : Fin 2048, x l * x l) = ((∑ l : Fin 2048, f l * f l : ℝ) : EReal) := by
    rw [Cert.KernelIdeal.Attn.coe_sum]
    exact Finset.sum_congr rfl fun l _ => by rw [hf l, ← EReal.coe_mul]
  have hp : 0 < (∑ l : Fin 2048, f l * f l) * (1 / 2048) + ε :=
    add_pos_of_nonneg_of_pos (mul_nonneg (Finset.sum_nonneg fun l _ => mul_self_nonneg (f l)) (by norm_num)) h0
  unfold nrm
  rw [hs, hε, width_word, Ideal.div_coe (by norm_num), ← EReal.coe_mul, ← EReal.coe_add, rsqrt_real _ hp, hf d, hγ, ← EReal.coe_mul, ← EReal.coe_mul]
  exact ⟨_, rfl⟩

theorem square_nonneg (x : EReal) : 0 ≤ x * x := by
  induction x using EReal.rec with
  | bot => simp
  | top => simp
  | coe r => rw [← EReal.coe_mul]; exact_mod_cast mul_self_nonneg r

theorem square_top (x : EReal) (h : ¬∃ r : ℝ, x = (r : EReal)) : x * x = ⊤ := by
  induction x using EReal.rec with
  | bot => simp
  | top => simp
  | coe r => exact absurd ⟨r, rfl⟩ h

/-- The norm of any row is real: an infinite element makes the mean of the squares infinite and the row zero. -/
theorem nrm_real (x : Fin 2048 → EReal) (g : EReal) (d : Fin 2048) (hg : ∃ r : ℝ, g = (r : EReal)) :
    ∃ r : ℝ, nrm x g d = (r : EReal) := by
  by_cases hx : ∀ l, ∃ r : ℝ, x l = (r : EReal)
  · exact nrm_of_real x g d hx hg
  obtain ⟨l, hl⟩ := not_forall.mp hx
  obtain ⟨ε, _, hε⟩ := eps_word
  have hs : (∑ l : Fin 2048, x l * x l) = ⊤ := by
    refine top_le_iff.mp ((square_top (x l) hl).symm.le.trans ?_)
    exact Finset.single_le_sum (f := fun l => x l * x l) (fun l _ => square_nonneg (x l)) (Finset.mem_univ l)
  refine ⟨0, ?_⟩
  unfold nrm
  rw [hs, hε, width_word, Ideal.div_coe (by norm_num), EReal.top_mul_coe_of_pos (by norm_num), EReal.top_add_coe, Ideal.rsqrt_top, mul_zero, zero_mul,
    EReal.coe_zero]

/-- What the latents' part needs of the arguments. -/
structure ArgsReal : Prop where
  g : ∀ i, ∃ r : ℝ, aG m c i = (r : EReal)
  w : ∀ i, ∃ r : ℝ, aW m c i = (r : EReal)

section
variable (X : FVec Ideal S1x16384x2048 .f32) (G : FVec Ideal S2048 .f32) (W : FVec Ideal S2048x6432 .f32) (r : Fin 16384) (j : Fin 1024)
theorem lat_plain (e : Fin 6432) (h : j.val < 800) (he : e.val = 1536 + j.val) : latV X G W r j = prj X G W r e :=
  (dif_pos h).trans (congrArg (prj X G W r) (Fin.ext he.symm))
theorem lat_neg (e : Fin 6432) (h : ¬j.val < 800) (h' : j.val < 816) (he : e.val = 1520 + j.val) : latV X G W r j = -prj X G W r e :=
  ((dif_neg h).trans (dif_pos h')).trans (congrArg (fun e => -prj X G W r e) (Fin.ext he.symm))
theorem lat_turned (e : Fin 6432) (h : ¬j.val < 816) (h' : j.val < 832) (he : e.val = 1488 + j.val) : latV X G W r j = prj X G W r e := by
  refine Eq.trans ?_ (congrArg (prj X G W r) (Fin.ext he.symm : (⟨1488 + j.val, by omega⟩ : Fin 6432) = e))
  exact (dif_neg (show ¬j.val < 800 by omega)).trans ((dif_neg h).trans (dif_pos h'))
theorem lat_zero (h : ¬j.val < 832) : latV X G W r j = 0 :=
  (dif_neg (show ¬j.val < 800 by omega)).trans ((dif_neg (show ¬j.val < 816 by omega)).trans (dif_neg h))
end

variable (ha : ArgsReal m c)

include ha in
theorem hrow_real (r : Fin 16384) (d : Fin 2048) : ∃ ρ : ℝ, hrow m c r d = (ρ : EReal) := by
  unfold hrow
  exact nrm_real _ _ d (ha.g _)

include ha in
/-- The latents' second block. -/
theorem second_at (t : Fin cfg0.N) (a : Fin 1024) (b : Fin 512) (j : Fin 1024) (hj : j.val = 512 + b.val) :
    k0_pay4 (scr m c t.val t.isLt) (blkAt m c 3 t) (ix2 a b) = latV (aX m c) (aG m c) (aW m c) (row t.val t.isLt a) j := by
  refine (pay4_at _ _ a b).trans ?_
  by_cases h1 : b.val < 288
  · refine (dot_at m c t.val t.isLt a _ ⟨2048 + b.val, by omega⟩ fun d => (blk_wb m c t b d).trans (wrow_plain (aW m c) b d h1)).trans ?_
    exact (lat_plain _ _ _ _ j _ (by omega) (by dsimp only; omega)).symm
  by_cases h2 : b.val < 304
  · refine (Finset.sum_congr rfl fun d _ => congrArg₂ (fun x y : EReal => x * y) (scr_at m c t.val t.isLt a d)
      ((blk_wb m c t b d).trans (wrow_neg (aW m c) b d h1 h2))).trans ?_
    refine (sum_neg _ _ (fun d => hrow_real m c ha _ d) (fun d => ha.w _)).trans ?_
    exact (lat_neg _ _ _ _ j ⟨2032 + b.val, by omega⟩ (by omega) (by omega) (by dsimp only; omega)).symm
  by_cases h3 : b.val < 320
  · refine (dot_at m c t.val t.isLt a _ ⟨2000 + b.val, by omega⟩ fun d => (blk_wb m c t b d).trans (wrow_turned (aW m c) b d h2 h3)).trans ?_
    exact (lat_turned _ _ _ _ j _ (by omega) (by omega) (by dsimp only; omega)).symm
  · refine (Finset.sum_congr rfl fun d _ => congrArg (fun y : EReal => _ * y) ((blk_wb m c t b d).trans (wrow_zero (aW m c) b d h3))).trans ?_
    refine (Finset.sum_congr rfl fun d _ => mul_zero _).trans ?_
    exact Finset.sum_const_zero.trans (lat_zero _ _ _ _ j (by omega)).symm

/-- The latents' first block. -/
theorem first_at (t : Fin cfg0.N) (h : t.val % 9 = 3) (a : Fin 1024) (b : Fin 512) (j : Fin 1024) (hj : j.val = b.val) :
    k0_pay3 (scr m c t.val t.isLt) (blkAt m c 2 t) (ix2 a b) = latV (aX m c) (aG m c) (aW m c) (row t.val t.isLt a) j := by
  refine (pay3_at _ _ a b).trans ?_
  refine (dot_at m c t.val t.isLt a _ ⟨1536 + b.val, by omega⟩ fun d => blk_wa m c t b d ⟨1536 + b.val, by omega⟩ (by dsimp only; omega)).trans ?_
  exact (lat_plain _ _ _ _ j _ (by omega) (by dsimp only; omega)).symm

include ha in
theorem lat_at : ∀ (n : ℕ) (hn : n < cfg0.N) (a : Fin 1024) (b : Fin 512) (j : Fin 1024), 3 ≤ n % 9 → j.val = min (n % 9 - 3) 1 * 512 + b.val →
    lat m c n hn (ix2 a b) = latV (aX m c) (aG m c) (aW m c) (row n hn a) j := by
  intro n
  induction n with
  | zero => intro hn a b j h3 hj; exact absurd h3 (by decide)
  | succ n ih =>
    intro hn a b j h3 hj
    by_cases h : (n + 1) % 9 = 3
    · rw [lat_new3 m c ⟨n + 1, hn⟩ h]
      exact first_at m c ⟨n + 1, hn⟩ h a b j (by omega)
    by_cases h' : (n + 1) % 9 = 4
    · rw [lat_new4 m c ⟨n + 1, hn⟩ h']
      exact second_at m c ha ⟨n + 1, hn⟩ a b j (by omega)
    · rw [lat_next m c n hn (by omega), ih (Nat.lt_of_succ_lt hn) a b j (by omega) (by omega)]
      refine congrArg (fun r => latV (aX m c) (aG m c) (aW m c) r j) (Fin.ext ?_)
      show n / 9 * 1024 + a.val = (n + 1) / 9 * 1024 + a.val
      omega

/-! ## The arrays after the last point -/

/-- The first result after the last point is the reference's. -/
theorem final_att : (dats m 0 c).arrAt 6 cfg0.N = Cert.Reference4Ideal.Proj.attA (aX m c) (aG m c) (aW m c) := by
  refine (dats m 0 c).arrAt_eq_of_covers 6 _ (by decide +kernel) fun t hf y => ?_
  blk_simp
  rw [after6]
  obtain ⟨a, b, rfl⟩ : ∃ (a : Fin 1024) (b : Fin 512), y = ix2 a b := ⟨y 0, y 1, by idx_vars y⟩
  have hb : min (t.val % 9) 2 * 512 + b.val < 1536 := by omega
  refine (att_at m c t.val t.isLt a b ⟨_, hb⟩ rfl).trans ?_
  have e : (win0_6.blk t).view.emb (ix2 a b) = ix2 (row t.val t.isLt a) ⟨_, hb⟩ := by
    unfold row
    blk_ext [idx t]
  rw [e]
  rfl

include ha in
/-- The second result after the last point is the reference's. -/
theorem final_lat : (dats m 0 c).arrAt 7 cfg0.N = Cert.Reference4Ideal.Proj.latA (aX m c) (aG m c) (aW m c) := by
  refine (dats m 0 c).arrAt_eq_of_covers 7 _ (by decide +kernel) fun t hf y => ?_
  have h3 : t.val % 9 = 3 ∨ t.val % 9 = 8 := of_decide_eq_true ((back7 t).symm.trans hf)
  blk_simp
  rw [after7]
  obtain ⟨a, b, rfl⟩ : ∃ (a : Fin 1024) (b : Fin 512), y = ix2 a b := ⟨y 0, y 1, by idx_vars y⟩
  have hb : min (t.val % 9 - 3) 1 * 512 + b.val < 1024 := by omega
  refine (lat_at m c ha t.val t.isLt a b ⟨_, hb⟩ (by omega) rfl).trans ?_
  have e : (win0_7.blk t).view.emb (ix2 a b) = ix2 (row t.val t.isLt a) ⟨_, hb⟩ := by
    unfold row
    blk_ext [idx t]
  rw [e]
  rfl

/-- The third result after the last point is the reference's. -/
theorem final_gate : (dats m 0 c).arrAt 8 cfg0.N = Cert.Reference4Ideal.Proj.gateA (aX m c) (aG m c) (aW m c) := by
  refine (dats m 0 c).arrAt_eq_of_covers 8 _ (by decide +kernel) fun t hf y => ?_
  have h5 : 5 ≤ t.val % 9 := of_decide_eq_true ((back8 t).symm.trans hf)
  blk_simp
  rw [after8]
  obtain ⟨a, b, rfl⟩ : ∃ (a b : Fin 1024), y = ix2 a b := ⟨y 0, y 1, by idx_vars y⟩
  have hb : (t.val % 9 - 5) * 1024 + b.val < 4096 := by omega
  refine (gate_at m c t a b ⟨_, hb⟩ rfl).trans ?_
  have e : (win0_8.blk t).view.emb (ix2 a b) = ix2 (row t.val t.isLt a) ⟨_, hb⟩ := by
    unfold row
    blk_ext [idx t]
  rw [e]
  rfl

/-- The run with the arrays it leaves, over the extended reals. -/
theorem run_arrays (ρ : Dev nD → PrngReg) : θ_run defs (onTc (τ := τ) (main (F := Ideal))) ⟨m, fun _ => 0, ρ⟩ (fun r => ∀ c : Dev nD,
      r.2.mem ((c.tc : Thread nD τ).loc main_v21_0) = (dats m 0 c).arrAt 6 cfg0.N
      ∧ r.2.mem ((c.tc : Thread nD τ).loc main_v21_1) = (dats m 0 c).arrAt 7 cfg0.N
      ∧ r.2.mem ((c.tc : Thread nD τ).loc main_v21_2) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run_main m ρ)
  refine ⟨(h c).1 6, (h c).1 7, (h c).1 8, ?_, ?_, ?_⟩
  · exact ((h c).2 main_arg0 (Pipeline.mem_restRefs_of main_arg0 (by decide) (by decide))).trans (V_arg m c (Or.inl rfl))
  · exact ((h c).2 main_arg1 (Pipeline.mem_restRefs_of main_arg1 (by decide) (by decide))).trans (V_arg m c (Or.inr (Or.inl rfl)))
  · exact ((h c).2 main_arg2 (Pipeline.mem_restRefs_of main_arg2 (by decide) (by decide))).trans (V_arg m c (Or.inr (Or.inr rfl)))

end Cert.Kernel4Ideal.Proj

end
-- ==== Proof.ProjWords.lean ====
module

public import proofs.«01_k».proof.Proof.ProjFrame
public import proofs.«01_k».proof.Proof.Gen.Kernel4.Launch
public import proofs.«01_k».proof.Defs

/-! The input projection at machine words is the program of `ProjFrame`, so its frame is an instance of the run there. -/

@[expose] public section

noncomputable section

namespace Cert.Proof

open Idealize.ShloMosaic Idealize.SL.Sem

theorem body_eq : @Cert.Kernel4.cc0_in_proj Bits _ _ = @Cert.Kernel4Ideal.cc0_in_proj Bits _ _ := by
  unfold Cert.Kernel4.cc0_in_proj Cert.Kernel4Ideal.cc0_in_proj
  rfl

theorem table_eq : Cert.Kernel4.defs₀ (F := Bits) = Cert.Kernel4Ideal.defs₀ (F := Bits) := by
  unfold Cert.Kernel4.defs₀ Cert.Kernel4Ideal.defs₀
  refine congrArg Defs.onTc (funext fun l => funext fun a => ?_)
  obtain ⟨n, hn⟩ := l
  obtain rfl : n = 0 := by omega
  obtain ⟨t, s⟩ := a
  dsimp only
  rw [body_eq]
  rfl

theorem defs_eq : Cert.Kernel4.defs (F := Bits) = Cert.Kernel4Ideal.defs (F := Bits) :=
  congrArg (Pipeline.defs (Cert.Kernel4Ideal.pcfgs (F := Bits))) table_eq

theorem main_eq : Cert.Kernel4.main (F := Bits) = Cert.Kernel4Ideal.main (F := Bits) := rfl

/-- The input projection runs, leaves its arguments unchanged and every counter at zero, at machine words. -/
theorem frame_kernel4 : quiescent_Kernel4 := fun m ρ _ => by
  rw [defs_eq, main_eq]
  exact Cert.Kernel4Ideal.Proj.frame_run (F := Bits) m ρ

end Cert.Proof

end
-- ==== Proof.Finite.lean ====
module

public import proofs.«01_k».proof.Proof.Gen.Pre_finite
public import Idealize.ShloMosaic.Lib.Pointwise

@[expose] public section

noncomputable section

namespace Cert.Pre_finite

open Cert.Pre_finite Cert.Pre_finite.Gen Idealize.ShloMosaic

/-- An extended real whose absolute value is below infinity is real. -/
theorem elem_real (x : EReal) (e : BitVec.ofBool (decide (FloatOps.absf (F := Ideal) (φ := .f32) x < Ideal.ofBits FTy.f32 2139095040#32)) = 1#1) :
    ∃ r : ℝ, x = (r : EReal) := by
  rw [show Ideal.ofBits FTy.f32 2139095040#32 = (⊤ : EReal) by simp [Ideal.ofBits, Ideal.ieee]] at e
  induction x using EReal.rec with
  | coe r => exact ⟨r, rfl⟩
  | bot => exact absurd e (by simp [FloatOps.absf])
  | top => exact absurd e (by simp [FloatOps.absf])

section
variable (a0 : FVec Ideal S1x16384x16x64 .f32) (a1 : FVec Ideal S1x16384x16x32 .f32) (a2 : FVec Ideal S1x16384x16x64 .f32)
    (a3 : FVec Ideal S1x16384x32 .f32) (a4 : FVec Ideal S1x16384x16x64 .f32)

theorem real0 (h : (fn (F := Ideal) a0 a1 a2 a3 a4).1 = fun _ => 1#1) (i : S1x16384x16x64.Idx) : ∃ r : ℝ, a0 i = (r : EReal) := by
  have e := congrFun h i
  unfold fn at e
  dsimp only at e
  pointwise at e
  exact elem_real _ e

theorem real1 (h : (fn (F := Ideal) a0 a1 a2 a3 a4).2.1 = fun _ => 1#1) (i : S1x16384x16x32.Idx) : ∃ r : ℝ, a1 i = (r : EReal) := by
  have e := congrFun h i
  unfold fn at e
  dsimp only at e
  pointwise at e
  exact elem_real _ e

theorem real2 (h : (fn (F := Ideal) a0 a1 a2 a3 a4).2.2.1 = fun _ => 1#1) (i : S1x16384x16x64.Idx) : ∃ r : ℝ, a2 i = (r : EReal) := by
  have e := congrFun h i
  unfold fn at e
  dsimp only at e
  pointwise at e
  exact elem_real _ e

theorem real3 (h : (fn (F := Ideal) a0 a1 a2 a3 a4).2.2.2 = fun _ => 1#1) (i : S1x16384x32.Idx) : ∃ r : ℝ, a3 i = (r : EReal) := by
  have e := congrFun h i
  unfold fn at e
  dsimp only at e
  pointwise at e
  exact elem_real _ e

end

end Cert.Pre_finite

end
-- ==== Proof.Finite4.lean ====
module

public import proofs.«01_k».proof.Proof.Finite
public import proofs.«01_k».proof.Proof.Gen.Pre_finite4
public import Idealize.ShloMosaic.Lib.Pointwise

/-! A finite gain and a finite weight of the input projection are arrays of reals. -/

@[expose] public section

noncomputable section

namespace Cert.Pre_finite4

open Cert.Pre_finite4 Cert.Pre_finite4.Gen Idealize.ShloMosaic

variable (a0 : FVec Ideal S1x16384x2048 .f32) (a1 : FVec Ideal S2048 .f32) (a2 : FVec Ideal S2048x6432 .f32)

theorem real_gain (h : (fn (F := Ideal) a0 a1 a2).1 = fun _ => 1#1) (i : S2048.Idx) : ∃ r : ℝ, a1 i = (r : EReal) := by
  have e := congrFun h i
  unfold fn at e
  dsimp only at e
  pointwise at e
  exact Cert.Pre_finite.elem_real _ e

theorem real_weight (h : (fn (F := Ideal) a0 a1 a2).2 = fun _ => 1#1) (i : S2048x6432.Idx) : ∃ r : ℝ, a2 i = (r : EReal) := by
  have e := congrFun h i
  unfold fn at e
  dsimp only at e
  pointwise at e
  exact Cert.Pre_finite.elem_real _ e

end Cert.Pre_finite4

end
-- ==== Proof.Host.lean ====
module

public import proofs.«01_k».proof.Proof.Block
public import proofs.«01_k».proof.Proof.Gen.KernelIdeal.Value
public import Idealize.ShloMosaic.Lib.StableHlo.RunRead

@[expose] public section

noncomputable section

namespace Cert.KernelIdeal.Attn

open Cert.KernelIdeal Cert.KernelIdeal.Gen Idealize.ShloMosaic Idealize.ShloMosaic.TcCoe Idealize.SL.Sem Idealize.ShloMosaic.StableHlo

/-! ## The operands' arrays, the queries and the keys over the reals

The arguments are the unrotated and rotated parts of the queries (`qn`, `qr`) and of the keys (`kn`, `kr`, the rotated
part shared by the heads), and the values `vl`. -/

variable (qn : Fin 16384 → Fin 16 → Fin 64 → ℝ) (qr : Fin 16384 → Fin 16 → Fin 32 → ℝ) (kn : Fin 16384 → Fin 16 → Fin 64 → ℝ)
  (kr : Fin 16384 → Fin 32 → ℝ) (vl : Fin 16384 → Fin 16 → Fin 64 → EReal)

/-- The scale of the queries: `1 / (√96 · log 2)`. -/
def qs : ℝ := 1 / (Real.sqrt 96 * Real.log 2)

/-- Query `s` of head `h`, padded with zeros and scaled. -/
def queryR (h : Fin 16) (s : Fin 16384) (d : Fin 128) : ℝ :=
  (if h1 : d.val < 64 then qn s h ⟨d.val, h1⟩ else if h2 : d.val - 64 < 32 then qr s h ⟨d.val - 64, h2⟩ else 0) * qs

/-- Key `j` of head `h`, with a one in column 96 and zeros after it. -/
def keyR (h : Fin 16) (j : Fin 16384) (d : Fin 128) : ℝ :=
  if h1 : d.val < 64 then kn j h ⟨d.val, h1⟩ else if h2 : d.val - 64 < 32 then kr j ⟨d.val - 64, h2⟩ else if d.val - 64 - 32 < 1 then 1 else 0

/-- The values of head `h` by key block, transposed, with a row of ones at row 64 and zeros after it. -/
def valR (h : Fin 16) (n : Fin 32) (r : Fin 80) (i : Fin 512) : EReal :=
  if h1 : r.val < 64 then vl ⟨n.val * 512 + i.val, by omega⟩ h ⟨r.val, h1⟩ else if r.val - 64 < 1 then 1 else 0

theorem qs_eq : Ideal.div 1 (Ideal.sqrt (Ideal.ofBits FTy.f32 1119879168#32) * Ideal.log (Ideal.ofBits FTy.f32 1073741824#32)) = (qs : EReal) := by
  have h96 : Ideal.ofBits FTy.f32 1119879168#32 = ((96 : ℝ) : EReal) := by
    simp [Ideal.ofBits, Ideal.ieee, -EReal.coe_mul]; norm_num
  have h2 : Ideal.ofBits FTy.f32 1073741824#32 = ((2 : ℝ) : EReal) := by
    simp [Ideal.ofBits, Ideal.ieee, -EReal.coe_mul]; norm_num
  have hne : Real.sqrt 96 * Real.log 2 ≠ 0 :=
    mul_ne_zero (Real.sqrt_ne_zero'.mpr (by norm_num)) (Real.log_pos (by norm_num)).ne'
  rw [h96, h2, Ideal.sqrt_coe, Ideal.log_coe, if_neg (by norm_num), if_neg (by norm_num), ← EReal.coe_mul, Ideal.div_coe hne, one_mul, qs]

variable (m : (ℓ : Loc nD τ sig) → Buf (Elt Ideal) ℓ) (c : Dev nD)

/-- The arguments' contents are these arrays. -/
def ArgsReal : Prop :=
  (∀ s h d, m ((c : Thread nD τ).loc main_arg0) (ix4 (0 : Fin 1) s h d) = (qn s h d : EReal))
  ∧ (∀ s h d, m ((c : Thread nD τ).loc main_arg1) (ix4 (0 : Fin 1) s h d) = (qr s h d : EReal))
  ∧ (∀ s h d, m ((c : Thread nD τ).loc main_arg2) (ix4 (0 : Fin 1) s h d) = (kn s h d : EReal))
  ∧ (∀ s d, m ((c : Thread nD τ).loc main_arg3) (ix3 (0 : Fin 1) s d) = (kr s d : EReal))
  ∧ (∀ s h d, m ((c : Thread nD τ).loc main_arg4) (ix4 (0 : Fin 1) s h d) = vl s h d)

variable (ha : ArgsReal qn qr kn kr vl m c)
include ha

/-- The queries' array when the kernel starts. -/
theorem qt_at (h : Fin 16) (d : Fin 128) (s : Fin 16384) :
    V m c main_v12 (ix2 (⟨h.val * 128 + d.val, by omega⟩ : Fin 2048) s) = (queryR qn qr h s d : EReal) := by
  obtain ⟨h0, h1, -, -, -⟩ := ha
  unfold V
  after_reads_simp
  pointwise
  after_reads_simp
  pointwise
  rw [qs_eq]
  have e1 : (h.val * 128 + d.val) / 128 = h.val := by omega
  have e2 : (h.val * 128 + d.val) % 128 = d.val := by omega
  simp only [e1, e2]
  unfold queryR
  rw [EReal.coe_mul]
  congr 1
  by_cases c1 : d.val < 64
  · rw [dif_pos c1, dif_pos c1]; exact h0 ..
  · rw [dif_neg c1, dif_neg c1]
    by_cases c2 : d.val - 64 < 32
    · rw [dif_pos c2, dif_pos c2]; exact h1 ..
    · rw [dif_neg c2, dif_neg c2]; exact EReal.coe_zero.symm

/-- The keys' array when the kernel starts. -/
theorem kf_at (h : Fin 16) (d : Fin 128) (s : Fin 16384) :
    V m c main_v21 (ix3 h s d) = (keyR kn kr h s d : EReal) := by
  obtain ⟨-, -, h2, h3, -⟩ := ha
  unfold V
  after_reads_simp
  pointwise
  after_reads_simp
  pointwise
  unfold keyR
  by_cases c1 : d.val < 64
  · rw [dif_pos c1, dif_pos c1]; exact h2 ..
  · rw [dif_neg c1, dif_neg c1]
    by_cases c2 : d.val - 64 < 32
    · rw [dif_pos c2, dif_pos c2]; exact h3 ..
    · rw [dif_neg c2, dif_neg c2]
      by_cases c3 : d.val - 64 - 32 < 1
      · rw [dif_pos c3, if_pos c3]; exact EReal.coe_one.symm
      · rw [dif_neg c3, if_neg c3]; exact EReal.coe_zero.symm

/-- The values' array when the kernel starts. -/
theorem vt_at (h : Fin 16) (r : Fin 80) (n : Fin 32) (i : Fin 512) :
    V m c main_v28 (ix3 n (⟨h.val * 80 + r.val, by omega⟩ : Fin 1280) i) = valR vl h n r i := by
  obtain ⟨-, -, -, -, h4⟩ := ha
  unfold V
  after_reads_simp
  pointwise
  after_reads_simp
  pointwise
  have e1 : (h.val * 80 + r.val) / 80 = h.val := by omega
  have e2 : (h.val * 80 + r.val) % 80 = r.val := by omega
  simp only [e1, e2]
  unfold valR
  by_cases c1 : r.val < 64
  · rw [dif_pos c1, dif_pos c1]; exact h4 ..
  · rw [dif_neg c1, dif_neg c1]
    by_cases c2 : r.val - 64 < 1
    · rw [dif_pos c2, if_pos c2]
    · rw [dif_neg c2, if_neg c2]

omit ha in
/-- Which block each window reads or writes at point `t`: head `t / 32`, query tile `t % 32`. -/
theorem idx : ∀ t : Fin cfg0.N, win0_0.index t = ![t.val / 32, t.val % 32] ∧ win0_1.index t = ![t.val / 32, min (t.val % 32 + 1) 31]
    ∧ win0_2.index t = ![t.val / 32, 0, 0] ∧ win0_3.index t = ![0, t.val / 32, 0] ∧ win0_4.index t = ![t.val / 32, t.val % 32] ∧ t.val / 32 < 16 :=
  (by decide +kernel : ∀ t : Fin grid0.N, _)

/-- The query tile of point `t`. -/
theorem q0_at (t : Fin cfg0.N) (d : Fin 128) (b : Fin 512) :
    iblk m c 0 t (ix2 d b)
      = (queryR qn qr ⟨t.val / 32, (idx t).2.2.2.2.2⟩ ⟨t.val % 32 * 512 + b.val, by omega⟩ d : EReal) := by
  have ht := idx t
  refine Eq.trans ?_ (qt_at qn qr kn kr vl m c ha ⟨t.val / 32, ht.2.2.2.2.2⟩ d ⟨t.val % 32 * 512 + b.val, by omega⟩)
  blk_ext [iblk, idx t]

/-- The query tile of the point after `t`. -/
theorem q1_at (t : Fin cfg0.N) (d : Fin 128) (b : Fin 512) :
    iblk m c 1 t (ix2 d b)
      = (queryR qn qr ⟨t.val / 32, (idx t).2.2.2.2.2⟩ ⟨min (t.val % 32 + 1) 31 * 512 + b.val, by omega⟩ d : EReal) := by
  have ht := idx t
  refine Eq.trans ?_ (qt_at qn qr kn kr vl m c ha ⟨t.val / 32, ht.2.2.2.2.2⟩ d ⟨min (t.val % 32 + 1) 31 * 512 + b.val, by omega⟩)
  blk_ext [iblk, idx t]

/-- The plane of keys of point `t`. -/
theorem k_at (t : Fin cfg0.N) (j : Fin 16384) (d : Fin 128) :
    iblk m c 2 t (ix3 (0 : Fin 1) j d) = (keyR kn kr ⟨t.val / 32, (idx t).2.2.2.2.2⟩ j d : EReal) := by
  have ht := idx t
  refine Eq.trans ?_ (kf_at qn qr kn kr vl m c ha ⟨t.val / 32, ht.2.2.2.2.2⟩ d j)
  blk_ext [iblk, idx t]

/-- The values of point `t`. -/
theorem v_at (t : Fin cfg0.N) (n : Fin 32) (r : Fin 80) (i : Fin 512) :
    iblk m c 3 t (ix3 n r i) = valR vl ⟨t.val / 32, (idx t).2.2.2.2.2⟩ n r i := by
  have ht := idx t
  refine Eq.trans ?_ (vt_at qn qr kn kr vl m c ha ⟨t.val / 32, ht.2.2.2.2.2⟩ r n i)
  blk_ext [iblk, idx t]

end Cert.KernelIdeal.Attn

end
-- ==== Proof.Sums.lean ====
module

public import proofs.«01_k».proof.Proof.Host

@[expose] public section

noncomputable section

namespace Cert.KernelIdeal.Attn

open Cert.KernelIdeal Cert.KernelIdeal.Gen Idealize.ShloMosaic Idealize.ShloMosaic.TcCoe Idealize.SL.Sem

variable (qn : Fin 16384 → Fin 16 → Fin 64 → ℝ) (qr : Fin 16384 → Fin 16 → Fin 32 → ℝ) (kn : Fin 16384 → Fin 16 → Fin 64 → ℝ)
  (kr : Fin 16384 → Fin 32 → ℝ) (vl : Fin 16384 → Fin 16 → Fin 64 → EReal)

/-- The score of query `s` and key `j` of head `h` before the scale. -/
def dotR (h : Fin 16) (s j : Fin 16384) : ℝ := ∑ d : Fin 64, qn s h d * kn j h d + ∑ d : Fin 32, qr s h d * kr j d

/-- The weight of key `j` before the normalization: the exponential of the scaled score. -/
def wgt (h : Fin 16) (s j : Fin 16384) : ℝ := Real.exp (dotR qn qr kn kr h s j * (1 / Real.sqrt 96))

/-- Softmax attention: the values, which may be infinite, times the real normalized weights. -/
def attnR (h : Fin 16) (s : Fin 16384) (r : Fin 64) : EReal :=
  ∑ j, vl j h r * ((wgt qn qr kn kr h s j / ∑ x, wgt qn qr kn kr h s x : ℝ) : EReal)

/-- A sum over the 128 columns, by the three parts of a row. -/
theorem sum_split (f : Fin 128 → ℝ) :
    ∑ d, f d = ∑ d : Fin 64, f ⟨d.val, by omega⟩ + ∑ d : Fin 32, f ⟨64 + d.val, by omega⟩ + ∑ d : Fin 32, f ⟨96 + d.val, by omega⟩ := by
  rw [show ∑ d, f d = ∑ d : Fin (96 + 32), f d from rfl, Fin.sum_univ_add]
  congr 1
  rw [show (∑ d : Fin 96, f (Fin.castAdd 32 d)) = ∑ d : Fin (64 + 32), f (Fin.castAdd 32 d) from rfl, Fin.sum_univ_add]
  rfl

theorem score_eq (h : Fin 16) (s j : Fin 16384) (σ : ℝ) :
    score (keyR kn kr h) (queryR qn qr h s) σ j = dotR qn qr kn kr h s j * qs - σ := by
  unfold score
  rw [sum_split]
  have h1 : ∑ d : Fin 64, keyR kn kr h j ⟨d.val, by omega⟩ * shifted (queryR qn qr h s) σ ⟨d.val, by omega⟩ = (∑ d : Fin 64, qn s h d * kn j h d) * qs := by
    rw [Finset.sum_mul]
    refine Finset.sum_congr rfl fun d _ => ?_
    have : ¬ (96 ≤ d.val ∧ d.val < 112) := by omega
    simp only [keyR, shifted, queryR, d.isLt, this, if_false, dif_pos]
    ring
  have h2 : ∑ d : Fin 32, keyR kn kr h j ⟨64 + d.val, by omega⟩ * shifted (queryR qn qr h s) σ ⟨64 + d.val, by omega⟩ = (∑ d : Fin 32, qr s h d * kr j d) * qs := by
    rw [Finset.sum_mul]
    refine Finset.sum_congr rfl fun d _ => ?_
    have a1 : ¬ (96 ≤ 64 + d.val ∧ 64 + d.val < 112) := by omega
    have a2 : ¬ 64 + d.val < 64 := by omega
    have a3 : 64 + d.val - 64 = d.val := by omega
    simp only [keyR, shifted, queryR, a1, a2, a3, d.isLt, if_false, dif_pos, dif_neg, not_false_eq_true]
    ring
  have h3 : ∑ d : Fin 32, keyR kn kr h j ⟨96 + d.val, by omega⟩ * shifted (queryR qn qr h s) σ ⟨96 + d.val, by omega⟩ = -σ := by
    rw [Finset.sum_eq_single (0 : Fin 32)]
    · simp [keyR, shifted]
    · intro d _ hd
      have a1 : ¬ 96 + d.val < 64 := by omega
      have a2 : ¬ 96 + d.val - 64 < 32 := by omega
      have hd' : d.val ≠ 0 := fun e => hd (Fin.ext e)
      have a3 : ¬ 96 + d.val - 64 - 32 < 1 := by omega
      simp only [keyR, a1, a2, a3, dif_neg, if_false, not_false_eq_true, zero_mul]
    · simp
  rw [h1, h2, h3, dotR]
  ring

theorem weight_eq (h : Fin 16) (s j : Fin 16384) (σ : ℝ) :
    Real.rpow 2 (score (keyR kn kr h) (queryR qn qr h s) σ j) = wgt qn qr kn kr h s j * Real.rpow 2 (-σ) := by
  rw [score_eq, wgt]
  show (2 : ℝ) ^ (_ : ℝ) = _ * (2 : ℝ) ^ (_ : ℝ)
  rw [sub_eq_add_neg, Real.rpow_add (by norm_num)]
  congr 1
  rw [Real.rpow_def_of_pos (by norm_num)]
  congr 1
  have h2 : Real.log 2 ≠ 0 := (Real.log_pos (by norm_num)).ne'
  have h96 : Real.sqrt 96 ≠ 0 := Real.sqrt_ne_zero'.mpr (by norm_num)
  unfold qs
  field_simp

theorem wgt_pos (h : Fin 16) (s j : Fin 16384) : 0 < wgt qn qr kn kr h s j := Real.exp_pos _

theorem den_pos (h : Fin 16) (s : Fin 16384) : 0 < ∑ j, wgt qn qr kn kr h s j :=
  Finset.sum_pos (fun _ _ => wgt_pos ..) Finset.univ_nonempty

theorem pow_pos' (σ : ℝ) : 0 < Real.rpow 2 (-σ) := Real.rpow_pos_of_pos (by norm_num) _

/-- The accumulator after all key blocks is one sum over all keys, times a common factor. -/
theorem accR_eq (h : Fin 16) (s : Fin 16384) (σ : ℝ) (r : Fin 80) :
    accR (keyR kn kr h) (valR vl h) (queryR qn qr h s) σ r 32
      = (∑ j : Fin 16384, valR vl h ⟨j.val / 512, by omega⟩ r ⟨j.val % 512, Nat.mod_lt _ (by decide)⟩ * (wgt qn qr kn kr h s j : EReal))
        * (Real.rpow 2 (-σ) : EReal) := by
  unfold accR
  rw [Finset.sum_range, sum_mul_real _ _ (pow_pos' σ).le, Fin.sum_univ_tiles 32 512 rfl]
  refine Finset.sum_congr rfl fun n _ => Finset.sum_congr rfl fun i _ => ?_
  have e1 : (n.val * 512 + i.val) / 512 = n.val := by omega
  have e2 : (n.val * 512 + i.val) % 512 = i.val := by omega
  have e3 : n.val % 32 = n.val := by omega
  have e4 : keyOf n.val i = ⟨n.val * 512 + i.val, by omega⟩ := by
    apply Fin.ext; show (512 * n.val + i.val) % 16384 = n.val * 512 + i.val; omega
  rw [weight_eq, EReal.coe_mul]
  simp only [e1, e2, e3, e4]
  exact (mul_assoc _ _ _).symm

theorem den_eq (h : Fin 16) (s : Fin 16384) (σ : ℝ) :
    accR (keyR kn kr h) (valR vl h) (queryR qn qr h s) σ 64 32
      = (((∑ j, wgt qn qr kn kr h s j) * Real.rpow 2 (-σ) : ℝ) : EReal) := by
  rw [accR_eq, EReal.coe_mul, coe_sum]
  refine congrArg (· * (Real.rpow 2 (-σ) : EReal)) ?_
  refine Finset.sum_congr rfl fun j _ => ?_
  have : valR vl h ⟨j.val / 512, by omega⟩ 64 ⟨j.val % 512, Nat.mod_lt _ (by decide)⟩ = 1 := by
    simp [valR]
  rw [this, one_mul]

/-- The quotient of the two accumulator rows is softmax attention, whatever the shift. -/
theorem quot_eq (h : Fin 16) (s : Fin 16384) (σ : ℝ) (r : Fin 64) :
    Ideal.div (accR (keyR kn kr h) (valR vl h) (queryR qn qr h s) σ ⟨r.val, by omega⟩ 32) (accR (keyR kn kr h) (valR vl h) (queryR qn qr h s) σ 64 32)
      = attnR qn qr kn kr vl h s r := by
  have hp := pow_pos' σ
  have hd := den_pos qn qr kn kr h s
  rw [den_eq, accR_eq, Ideal.div_coe (mul_pos hd hp).ne', mul_assoc, ← EReal.coe_mul,
    sum_mul_real _ _ (mul_pos hp (one_div_pos.mpr (mul_pos hd hp))).le, attnR]
  refine Finset.sum_congr rfl fun j _ => ?_
  have : valR vl h ⟨j.val / 512, by omega⟩ ⟨r.val, by omega⟩ ⟨j.val % 512, Nat.mod_lt _ (by decide)⟩ = vl j h r := by
    simp only [valR, r.isLt, dif_pos]
    refine congrArg (fun z => vl z h r) ?_
    apply Fin.ext; show j.val / 512 * 512 + j.val % 512 = j.val; omega
  rw [this, mul_assoc, ← EReal.coe_mul]
  refine congrArg (fun z : ℝ => vl j h r * (z : EReal)) ?_
  have hp' := hp.ne'
  have hd' := hd.ne'
  generalize Real.rpow 2 (-σ) = p at hp' ⊢
  field_simp

variable (m : (ℓ : Loc nD τ sig) → Buf (Elt Ideal) ℓ) (c : Dev nD)

/-- The array the kernel leaves: row `64·h + r`, column `s` is softmax attention of head `h`. -/
def outR (i : S1024x16384.Idx) : EReal :=
  (attnR qn qr kn kr vl ⟨(i 0).val / 64, by have h : (i 0).val < 1024 := (i 0).isLt; omega⟩ (i 1) ⟨(i 0).val % 64, Nat.mod_lt _ (by decide)⟩)

variable (ha : ArgsReal qn qr kn kr vl m c)
include ha

/-- What a point leaves as the next shift is real. -/
theorem carried_real (t : Fin cfg0.N) : ∃ σ : Fin 512 → ℝ, ∀ b, (outsAt0 m c t.val t.isLt).2.2 (ix2 (0 : Fin 1) b) = (σ b : EReal) := by
  have key := fun b => shift_real (iblk m c 1 t) (iblk m c 2 t) (fun d b => queryR qn qr ⟨t.val / 32, (idx t).2.2.2.2.2⟩ ⟨min (t.val % 32 + 1) 31 * 512 + b.val, by omega⟩ d)
    (keyR kn kr ⟨t.val / 32, (idx t).2.2.2.2.2⟩) (q1_at qn qr kn kr vl m c ha t) (k_at qn qr kn kr vl m c ha t) b
  choose σ hσ using key
  refine ⟨σ, fun b => ?_⟩
  by_cases h0 : t.val % 32 = 0
  · rw [outsAt0_A m c t h0]; dsimp only; rw [shift_A]; exact hσ b
  · rw [outsAt0_B m c t h0]; dsimp only; rw [shift_B]; exact hσ b

/-- What point `t` leaves in its block. -/
theorem point (t : Fin cfg0.N) (r : Fin 64) (b : Fin 512) :
    (outsAt0 m c t.val t.isLt).1 (ix2 r b)
      = (attnR qn qr kn kr vl ⟨t.val / 32, (idx t).2.2.2.2.2⟩ ⟨t.val % 32 * 512 + b.val, by omega⟩ r) := by
  have ob := fun (sh : FVec Ideal S1x512 .f32) (σ : Fin 512 → ℝ) (hs : ∀ b, sh (ix2 (0 : Fin 1) b) = (σ b : EReal)) =>
    (outBlk_quot (iblk m c 0 t) sh (iblk m c 2 t) (iblk m c 3 t)
      (fun d b => queryR qn qr ⟨t.val / 32, (idx t).2.2.2.2.2⟩ ⟨t.val % 32 * 512 + b.val, by omega⟩ d) σ
      (keyR kn kr ⟨t.val / 32, (idx t).2.2.2.2.2⟩) (valR vl ⟨t.val / 32, (idx t).2.2.2.2.2⟩)
      (q0_at qn qr kn kr vl m c ha t) hs (k_at qn qr kn kr vl m c ha t) (v_at qn qr kn kr vl m c ha t) r b).trans
      (quot_eq qn qr kn kr vl ⟨t.val / 32, (idx t).2.2.2.2.2⟩ ⟨t.val % 32 * 512 + b.val, by omega⟩ (σ b) r)
  by_cases h0 : t.val % 32 = 0
  · have key := fun b => shift_real (iblk m c 0 t) (iblk m c 2 t)
      (fun d b => queryR qn qr ⟨t.val / 32, (idx t).2.2.2.2.2⟩ ⟨t.val % 32 * 512 + b.val, by omega⟩ d)
      (keyR kn kr ⟨t.val / 32, (idx t).2.2.2.2.2⟩) (q0_at qn qr kn kr vl m c ha t) (k_at qn qr kn kr vl m c ha t) b
    choose σ hσ using key
    rw [outsAt0_A m c t h0]; dsimp only; rw [out_A]; exact ob (k0_pay1 (keys64 (iblk m c 2 t)) (iblk m c 0 t)) σ hσ
  · obtain ⟨σ, hσ⟩ := carried_real qn qr kn kr vl m c ha ⟨t.val - 1, Nat.lt_of_le_of_lt (Nat.sub_le _ _) t.isLt⟩
    dsimp only at hσ
    rw [outsAt0_B m c t h0]; dsimp only; rw [out_B]
    generalize (outsAt0 m c (t.val - 1) _).2.2 = xs at hσ ⊢
    exact ob xs σ hσ

/-- The kernel's result array holds softmax attention. -/
theorem final : (Gen.dats m 0 c).arrAt 4 cfg0.N = outR qn qr kn kr vl := by
  refine (Gen.dats m 0 c).arrAt_eq_of_covers 4 _ (by decide +kernel) fun t _ y => ?_
  have ht := idx t
  have hi : win0_4.index t 0 = t.val / 32 := congrFun ht.2.2.2.2.1 0
  have hj : win0_4.index t 1 = t.val % 32 := congrFun ht.2.2.2.2.1 1
  blk_simp
  rw [after0_4]
  idx_vars y
  refine (point qn qr kn kr vl m c ha t _ _).trans ?_
  have e : ((View.whole main_v29_0).slice (win0_4.rect t)).emb (ix2 y0 y1) = (ix2 (⟨t.val / 32 * 64 + y0.val, by omega⟩ : Fin 1024) (⟨t.val % 32 * 512 + y1.val, by omega⟩ : Fin 16384)) := by
    blk_ext [idx t]
  rw [e]
  unfold outR
  have e1 : (t.val / 32 * 64 + y0.val) / 64 = t.val / 32 := by omega
  have e2 : (t.val / 32 * 64 + y0.val) % 64 = y0.val := by omega
  have e3 : (ix2 (⟨t.val / 32 * 64 + y0.val, by omega⟩ : Fin 1024) (⟨t.val % 32 * 512 + y1.val, by omega⟩ : Fin 16384) : S1024x16384.Idx) 0
    = (⟨t.val / 32 * 64 + y0.val, by omega⟩ : Fin 1024) := rfl
  have e4 : (ix2 (⟨t.val / 32 * 64 + y0.val, by omega⟩ : Fin 1024) (⟨t.val % 32 * 512 + y1.val, by omega⟩ : Fin 16384) : S1024x16384.Idx) 1
    = (⟨t.val % 32 * 512 + y1.val, by omega⟩ : Fin 16384) := rfl
  simp only [e3, e4, e1, e2]

end Cert.KernelIdeal.Attn

end
-- ==== Proof.Reference.lean ====
module

public import proofs.«01_k».proof.Proof.Sums
public import proofs.«01_k».proof.Proof.Gen.ReferenceIdeal.Run

@[expose] public section

noncomputable section

namespace Cert.ReferenceIdeal.Attn

open Cert.ReferenceIdeal Cert.ReferenceIdeal.Gen Idealize.ShloMosaic Idealize.ShloMosaic.TcCoe Idealize.SL.Sem
open Cert.KernelIdeal.Attn (dotR wgt attnR fold_max_real coe_sum den_pos)

/-- The scaled scores. -/
def scores (a0 : FVec Ideal S1x16384x16x64 .f32) (a1 : FVec Ideal S1x16384x16x32 .f32) (a2 : FVec Ideal S1x16384x16x64 .f32)
    (a3 : FVec Ideal S1x16384x32 .f32) : FVec Ideal S1x16x16384x16384 .f32 :=
  mulf (addf (Host.dotGeneral dot_S1x16384x16x64_S1x16384x16x64_S1x16x16384x16384_3_3_1_1_02_02 none a0 a2) (transpose S1x16x16384x16384 [0, 3, 2, 1] (Host.dotGeneral dot_S1x16384x32_S1x16384x16x32_S1x16384x16384x16_2_3_1_12_0_0 none a3 a1) transposes_S1x16384x16384x16_S1x16x16384x16384_0_3_2_1)) (broadcastInDim S1x16x16384x16384 ![] bcast_S_S1x16x16384x16384 (Host.divf (constant S_ .f32 0x3F800000#32) (Host.sqrt (constant S_ .f32 0x42C00000#32))))

/-- The largest score of each query. -/
def top (SC : FVec Ideal S1x16x16384x16384 .f32) : FVec Ideal S1x16x16384 .f32 :=
  maximumf (broadcastInDim S1x16x16384 ![] bcast_S_S1x16x16384 (constant S_ .f32 0xFF800000#32)) (Host.reduce FloatOps.maximumf SC (constant S_ .f32 0xFF800000#32) reducesTo_S1x16x16384x16384_S1x16x16384_d3 h_S_)

/-- The exponentials of the scores less the largest. -/
def weights (SC : FVec Ideal S1x16x16384x16384 .f32) : FVec Ideal S1x16x16384x16384 .f32 :=
  Host.exp (subf SC (broadcastInDim S1x16x16384x16384 ![0, 1, 2, 3] bcast_S1x16x16384x1_S1x16x16384x16384_0_1_2_3 (broadcastInDim S1x16x16384x1 ![0, 1, 2] bcast_S1x16x16384_S1x16x16384x1_0_1_2 (top SC))))

/-- The reference's result. -/
def result (a0 : FVec Ideal S1x16384x16x64 .f32) (a1 : FVec Ideal S1x16384x16x32 .f32) (a2 : FVec Ideal S1x16384x16x64 .f32)
    (a3 : FVec Ideal S1x16384x32 .f32) (a4 : FVec Ideal S1x16384x16x64 .f32) : FVec Ideal S1024x16384 .bf16 :=
  truncf .bf16 (transpose S1024x16384 [1, 0] (shapeCast _ (shapeCast _ (transpose S1x16384x16x64 [0, 3, 1, 2] (Host.dotGeneral dot_S1x16384x16x64_S1x16x16384x16384_S1x16x64x16384_1_3_3_2_02_01 none a4 (Host.divf (weights (scores a0 a1 a2 a3)) (broadcastInDim S1x16x16384x16384 ![0, 1, 2, 3] bcast_S1x16x16384x1_S1x16x16384x16384_0_1_2_3 (broadcastInDim S1x16x16384x1 ![0, 1, 2] bcast_S1x16x16384_S1x16x16384x1_0_1_2 (Host.reduceAdd (weights (scores a0 a1 a2 a3)) (constant S_ .f32 0x00000000#32) reducesTo_S1x16x16384x16384_S1x16x16384_d3 h_S_))))) transposes_S1x16x64x16384_S1x16384x16x64_0_3_1_2) shapeCasts_S1x16384x16x64_S1x16384x1024) shapeCasts_S1x16384x1024_S16384x1024) transposes_S16384x1024_S1024x16384_1_0) bitsLt_bf16_f32

theorem scores_at (a0 : FVec Ideal S1x16384x16x64 .f32) (a1 : FVec Ideal S1x16384x16x32 .f32) (a2 : FVec Ideal S1x16384x16x64 .f32)
    (a3 : FVec Ideal S1x16384x32 .f32) (h : Fin 16) (s j : Fin 16384) :
    scores a0 a1 a2 a3 (ix4 (0 : Fin 1) h s j)
      = (∑ x : Fin 64, a0 (ix4 (0 : Fin 1) s h x) * a2 (ix4 (0 : Fin 1) j h x) + ∑ x : Fin 32, a3 (ix3 (0 : Fin 1) j x) * a1 (ix4 (0 : Fin 1) s h x))
        * Ideal.div 1 (Ideal.sqrt (Ideal.ofBits FTy.f32 1119879168#32)) := by
  pointwise [scores]

theorem weights_at (SC : FVec Ideal S1x16x16384x16384 .f32) (h : Fin 16) (s j : Fin 16384) :
    weights SC (ix4 (0 : Fin 1) h s j) = Ideal.exp (SC (ix4 (0 : Fin 1) h s j) - top SC (ix3 (0 : Fin 1) h s)) := by
  pointwise [weights]

theorem result_at (a0 : FVec Ideal S1x16384x16x64 .f32) (a1 : FVec Ideal S1x16384x16x32 .f32) (a2 : FVec Ideal S1x16384x16x64 .f32)
    (a3 : FVec Ideal S1x16384x32 .f32) (a4 : FVec Ideal S1x16384x16x64 .f32) (g : Fin 1024) (s : Fin 16384) :
    result a0 a1 a2 a3 a4 (ix2 g s)
      = ∑ x : Fin 16384, a4 (ix4 (0 : Fin 1) x (⟨g.val / 64, by omega⟩ : Fin 16) (⟨g.val % 64, Nat.mod_lt _ (by decide)⟩ : Fin 64))
        * Ideal.div (weights (scores a0 a1 a2 a3) (ix4 (0 : Fin 1) (⟨g.val / 64, by omega⟩ : Fin 16) s x))
          (∑ y : Fin 16384, weights (scores a0 a1 a2 a3) (ix4 (0 : Fin 1) (⟨g.val / 64, by omega⟩ : Fin 16) s y)) := by
  pointwise [result]

/-- The largest element along one axis of an array of reals is real. -/
theorem reduce_real {s t u : Shape} {a : Fin s.rank} (f : EReal → EReal → EReal) (hf : f = max) (x : s.Idx → EReal) (init : u.Idx → EReal) (h' : s.ReducesTo [a] t) (h : s.Reduces [a] t)
    (hu : 0 < u.numel) (j : t.Idx) (hi : init (Shape.Idx.first hu) = ⊥) (hx : ∀ i, ∃ r : ℝ, x i = (r : EReal)) (hpos : 0 < s.size a) :
    ∃ M : ℝ, Host.reduce f x init h' hu j = (M : EReal) := by
  subst hf
  rw [Host.reduce_eq_fold_single _ x init h' h hu j, hi]
  choose f hf using hx
  have hx' : x = fun i => (f i : EReal) := funext hf
  subst hx'
  have : Nonempty (Fin (s.size a)) := ⟨⟨0, hpos⟩⟩
  exact fold_max_real Finset.univ Finset.univ_nonempty fun k => f (h.lift j k)

theorem bot_eq : Ideal.ofBits .f32 0xFF800000#32 = (⊥ : EReal) := by simp [Ideal.ofBits, Ideal.ieee]

theorem maximumf_apply {s : Shape} (A B : FVec Ideal s .f32) (j : s.Idx) : maximumf A B j = max (A j) (B j) := rfl

theorem start_apply (j : S1x16x16384.Idx) :
    broadcastInDim S1x16x16384 ![] bcast_S_S1x16x16384 (constant (F := Ideal) S_ .f32 0xFF800000#32) j = (⊥ : EReal) := by
  pointwise
  exact bot_eq

/-- The largest of real scores is real. -/
theorem top_real (SC : FVec Ideal S1x16x16384x16384 .f32) (hSC : ∀ i, ∃ r : ℝ, SC i = (r : EReal)) (j : S1x16x16384.Idx) :
    ∃ M : ℝ, top SC j = (M : EReal) := by
  obtain ⟨M, hM⟩ := reduce_real (FloatOps.maximumf (F := Ideal) (φ := .f32)) Ideal.maximumf_eq_max SC (constant (F := Ideal) S_ .f32 0xFF800000#32)
    reducesTo_S1x16x16384x16384_S1x16x16384_d3 ⟨by decide, by decide, by decide⟩ h_S_ j bot_eq hSC (by decide)
  refine ⟨M, ?_⟩
  unfold top
  rw [maximumf_apply, start_apply]
  refine Eq.trans (congrArg (max ⊥) hM) ?_
  exact max_eq_right bot_le

variable (qn : Fin 16384 → Fin 16 → Fin 64 → ℝ) (qr : Fin 16384 → Fin 16 → Fin 32 → ℝ) (kn : Fin 16384 → Fin 16 → Fin 64 → ℝ)
  (kr : Fin 16384 → Fin 32 → ℝ) (vl : Fin 16384 → Fin 16 → Fin 64 → EReal)

theorem inv_eq : Ideal.div 1 (Ideal.sqrt (Ideal.ofBits FTy.f32 1119879168#32)) = ((1 / Real.sqrt 96 : ℝ) : EReal) := by
  have h96 : Ideal.ofBits FTy.f32 1119879168#32 = ((96 : ℝ) : EReal) := by
    simp [Ideal.ofBits, Ideal.ieee, -EReal.coe_mul]; norm_num
  rw [h96, Ideal.sqrt_coe, if_neg (by norm_num), Ideal.div_coe (Real.sqrt_ne_zero'.mpr (by norm_num)), one_mul]

section
variable (a0 : FVec Ideal S1x16384x16x64 .f32) (a1 : FVec Ideal S1x16384x16x32 .f32) (a2 : FVec Ideal S1x16384x16x64 .f32)
    (a3 : FVec Ideal S1x16384x32 .f32) (a4 : FVec Ideal S1x16384x16x64 .f32)
  (h0 : ∀ s h d, a0 (ix4 (0 : Fin 1) s h d) = (qn s h d : EReal)) (h1 : ∀ s h d, a1 (ix4 (0 : Fin 1) s h d) = (qr s h d : EReal))
  (h2 : ∀ s h d, a2 (ix4 (0 : Fin 1) s h d) = (kn s h d : EReal)) (h3 : ∀ s d, a3 (ix3 (0 : Fin 1) s d) = (kr s d : EReal))
  (h4 : ∀ s h d, a4 (ix4 (0 : Fin 1) s h d) = vl s h d)
include h0 h1 h2 h3

theorem scores_real (h : Fin 16) (s j : Fin 16384) :
    scores a0 a1 a2 a3 (ix4 (0 : Fin 1) h s j) = ((dotR qn qr kn kr h s j * (1 / Real.sqrt 96) : ℝ) : EReal) := by
  rw [scores_at, inv_eq, EReal.coe_mul, dotR, EReal.coe_add, coe_sum, coe_sum]
  simp only [h0, h1, h2, h3, EReal.coe_mul]
  simp only [mul_comm]

include h4

/-- The reference's result is softmax attention. -/
theorem result_attn (g : Fin 1024) (s : Fin 16384) :
    result a0 a1 a2 a3 a4 (ix2 g s) = (attnR qn qr kn kr vl ⟨g.val / 64, by omega⟩ s ⟨g.val % 64, Nat.mod_lt _ (by decide)⟩) := by
  have hall : ∀ i, ∃ r : ℝ, scores a0 a1 a2 a3 i = (r : EReal) := fun i => by
    have e : i = ix4 (0 : Fin 1) (i 1) (i 2) (i 3) := by
      funext a; fin_cases a
      · exact Subsingleton.elim (α := Fin 1) _ _
      · rfl
      · rfl
      · rfl
    exact ⟨_, (congrArg _ e).trans (scores_real qn qr kn kr a0 a1 a2 a3 h0 h1 h2 h3 (i 1) (i 2) (i 3))⟩
  obtain ⟨M, hM⟩ := top_real (scores a0 a1 a2 a3) hall (ix3 (0 : Fin 1) (⟨g.val / 64, by omega⟩ : Fin 16) s)
  have hw : ∀ x : Fin 16384, weights (scores a0 a1 a2 a3) (ix4 (0 : Fin 1) (⟨g.val / 64, by omega⟩ : Fin 16) s x)
      = ((wgt qn qr kn kr ⟨g.val / 64, by omega⟩ s x * Real.exp (-M) : ℝ) : EReal) := fun x => by
    rw [weights_at, hM, scores_real qn qr kn kr a0 a1 a2 a3 h0 h1 h2 h3, ← EReal.coe_sub, Ideal.exp_coe, sub_eq_add_neg, Real.exp_add, wgt]
  have hD := den_pos qn qr kn kr ⟨g.val / 64, by omega⟩ s
  have hM0 := Real.exp_pos (-M)
  rw [result_at]
  simp only [hw, h4]
  rw [← coe_sum, ← Finset.sum_mul]
  simp only [Ideal.div_coe (mul_pos hD hM0).ne', ← EReal.coe_mul]
  rw [attnR]
  refine Finset.sum_congr rfl fun x _ => congrArg (fun z : ℝ => _ * (z : EReal)) ?_
  have hD' := hD.ne'
  have hM' := hM0.ne'
  field_simp

end

end Cert.ReferenceIdeal.Attn

end
-- ==== Proof.lean ====
module

public import proofs.«01_k».proof.Proof.FfnValue
public import proofs.«01_k».proof.Proof.MergeValue
public import proofs.«01_k».proof.Proof.ProjValue
public import proofs.«01_k».proof.Proof.ProjWords
public import proofs.«01_k».proof.Proof.Finite4
public import proofs.«01_k».proof.Defs
public import proofs.«01_k».proof.Proof.Gen.Kernel.Frame
public import proofs.«01_k».proof.Proof.Gen.KernelIdeal.Value
public import proofs.«01_k».proof.Proof.Gen.Pre_finite
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Launch
public import proofs.«01_k».proof.Proof.Gen.Kernel4.Points
public import proofs.«01_k».proof.Proof.Gen.Kernel4Ideal.Launch
public import proofs.«01_k».proof.Proof.Gen.Kernel4Ideal.Points
public import proofs.«01_k».proof.Proof.Gen.Kernel4Ideal.Skeleton
public import proofs.«01_k».proof.Proof.Gen.Kernel4Ideal.Loops
public import proofs.«01_k».proof.Proof.Gen.Reference4Ideal.Run
public import proofs.«01_k».proof.Proof.Gen.Pre_finite4
public import proofs.«01_k».proof.Proof.Reference
public import proofs.«01_k».proof.Proof.Finite
public import Idealize.ShloMosaic.Adequacy
public import Idealize.ShloMosaic.Init
public import Idealize.ShloMosaic.Lib.Quiescent

@[expose] public section

noncomputable section

namespace Cert.Proof

open Idealize.ShloMosaic Idealize.SL.Sem

/-- The attention's reference runs, leaves its arguments unchanged and every counter at zero. -/
theorem frame_reference : quiescent_ReferenceIdeal := fun m ρ _ => (θ_run Cert.ReferenceIdeal.defs _ _).mono
  (fun r h => ⟨fun c => (h c).2, sem_eq_zero_of_no_sems (by decide) r.2⟩)
  (Cert.ReferenceIdeal.Value.run (F := Ideal) m ρ)

/-- Finite queries and keys are arrays of reals. -/
theorem args_real (m : (ℓ : Loc Cert.KernelIdeal.nD Cert.KernelIdeal.τ Cert.KernelIdeal.sig) → Buf (Elt Ideal) ℓ)
    (h : Pre_KernelIdeal_finite m) (c : Dev Cert.KernelIdeal.nD) : ∃ qn qr kn kr vl, Cert.KernelIdeal.Attn.ArgsReal qn qr kn kr vl m c := by
  obtain ⟨h0, h1, h2, h3⟩ := h c
  have r0 := Cert.Pre_finite.real0 _ _ _ _ _ h0
  have r1 := Cert.Pre_finite.real1 _ _ _ _ _ h1
  have r2 := Cert.Pre_finite.real2 _ _ _ _ _ h2
  have r3 := Cert.Pre_finite.real3 _ _ _ _ _ h3
  choose f0 e0 using r0
  choose f1 e1 using r1
  choose f2 e2 using r2
  choose f3 e3 using r3
  exact ⟨fun s h d => f0 (ix4 0 s h d), fun s h d => f1 (ix4 0 s h d), fun s h d => f2 (ix4 0 s h d), fun s d => f3 (ix3 0 s d),
    fun s h d => m ((c.tc : Thread _ _).loc Cert.KernelIdeal.main_arg4) (ix4 0 s h d),
    fun s h d => e0 _, fun s h d => e1 _, fun s h d => e2 _, fun s d => e3 _, fun s h d => rfl⟩

/-- Over the extended reals and with finite queries and keys, the attention kernel leaves the array that its reference computes. -/
theorem attention : algebraic_KernelIdeal_ReferenceIdeal_pre_finite := by
  intro m ρ m' ρ' hpre hagree
  have hfin : ∀ c, ∃ w : Buf (Elt Ideal) ((c.tc : Thread Cert.KernelIdeal.nD Cert.KernelIdeal.τ).loc Cert.KernelIdeal.main_v29_0),
      (Cert.KernelIdeal.Gen.dats m 0 c).arrAt 4 Cert.KernelIdeal.cfg0.N = w
      ∧ Cert.ReferenceIdeal.Attn.result (m ((c.tc : Thread _ _).loc Cert.KernelIdeal.main_arg0)) (m ((c.tc : Thread _ _).loc Cert.KernelIdeal.main_arg1))
        (m ((c.tc : Thread _ _).loc Cert.KernelIdeal.main_arg2)) (m ((c.tc : Thread _ _).loc Cert.KernelIdeal.main_arg3))
        (m ((c.tc : Thread _ _).loc Cert.KernelIdeal.main_arg4)) = w := fun c => by
    obtain ⟨qn, qr, kn, kr, vl, ha⟩ := args_real m hpre c
    refine ⟨Cert.KernelIdeal.Attn.outR qn qr kn kr vl, Cert.KernelIdeal.Attn.final qn qr kn kr vl m c ha, ?_⟩
    obtain ⟨h0, h1, h2, h3, h4⟩ := ha
    funext j
    have e : j = ix2 (j 0) (j 1) := by
      funext a; fin_cases a <;> rfl
    rw [e]
    exact Cert.ReferenceIdeal.Attn.result_attn qn qr kn kr vl _ _ _ _ _ h0 h1 h2 h3 h4 (j 0) (j 1)
  choose w hw hr using hfin
  refine ⟨w, ?_, ?_⟩
  · exact (θ_run Cert.KernelIdeal.defs _ _).mono (fun _ h c => ⟨(h c).1.trans (hw c), (h c).2.2⟩)
      (Cert.KernelIdeal.Value.run_blocks (F := Ideal) m ρ)
  · refine (θ_run Cert.ReferenceIdeal.defs _ _).mono (fun _ h c => ⟨?_, (h c).2⟩) (Cert.ReferenceIdeal.Value.run (F := Ideal) m' ρ')
    rw [(h c).1, (hagree c).1, (hagree c).2.1, (hagree c).2.2.1, (hagree c).2.2.2.1, (hagree c).2.2.2.2]
    exact hr c

/-- The feed-forward part's reference runs, leaves its arguments unchanged and every counter at zero. -/
theorem frame_reference2 : quiescent_Reference2Ideal := fun m ρ _ => (θ_run Cert.Reference2Ideal.defs _ _).mono
  (fun r h => ⟨fun c => (h c).2, sem_eq_zero_of_no_sems (by decide) r.2⟩)
  (Cert.Reference2Ideal.Value.run (F := Ideal) m ρ)

/-- The merge's reference runs, leaves its arguments unchanged and every counter at zero. -/
theorem frame_reference3 : quiescent_Reference3Ideal := fun m ρ _ => (θ_run Cert.Reference3Ideal.defs _ _).mono
  (fun r h => ⟨fun c => (h c).2.2, sem_eq_zero_of_no_sems (by decide) r.2⟩)
  (Cert.Reference3Ideal.Value.run (F := Ideal) m ρ)

/-- Over the extended reals the feed-forward kernel leaves the array that its reference computes. -/
theorem feed_forward : algebraic_Kernel2Ideal_Reference2Ideal := by
  intro m ρ m' ρ' _ hagree
  refine ⟨fun c => Cert.Reference2Ideal.Ffn.out (Cert.Kernel2Ideal.Ffn.aX m c) (Cert.Kernel2Ideal.Ffn.aH m c) (Cert.Kernel2Ideal.Ffn.aU m c)
    (Cert.Kernel2Ideal.Ffn.aW m c) (Cert.Kernel2Ideal.Ffn.aG m c), ?_, ?_⟩
  · exact (θ_run Cert.Kernel2Ideal.defs _ _).mono (fun _ h c => ⟨(h c).1.trans (Cert.Kernel2Ideal.Ffn.final m c), (h c).2⟩)
      (Cert.Kernel2Ideal.Value.run_blocks (F := Ideal) m ρ)
  · refine (θ_run Cert.Reference2Ideal.defs _ _).mono (fun _ h c => ⟨?_, (h c).2⟩) (Cert.Reference2Ideal.Value.run (F := Ideal) m' ρ')
    rw [(h c).1, (hagree c).1, (hagree c).2.1, (hagree c).2.2.1, (hagree c).2.2.2.1, (hagree c).2.2.2.2]
    exact Cert.Reference2Ideal.Ffn.reference_out _ _ _ _ _

/-- Over the extended reals the merge kernel leaves the two arrays that its reference computes. -/
theorem merge : algebraic_Kernel3Ideal_Reference3Ideal := by
  intro m ρ m' ρ' _ hagree
  refine ⟨fun c => Cert.Reference3Ideal.Merge.x1 (Cert.Kernel3Ideal.Merge.aX m c) (Cert.Kernel3Ideal.Merge.aOA m c) (Cert.Kernel3Ideal.Merge.aOB m c)
    (Cert.Kernel3Ideal.Merge.aSA m c) (Cert.Kernel3Ideal.Merge.aSB m c) (Cert.Kernel3Ideal.Merge.aWA m c) (Cert.Kernel3Ideal.Merge.aWB m c)
    (Cert.Kernel3Ideal.Merge.aWO m c),
    fun c => Cert.Reference3Ideal.Merge.h2 (Cert.Kernel3Ideal.Merge.aX m c) (Cert.Kernel3Ideal.Merge.aOA m c) (Cert.Kernel3Ideal.Merge.aOB m c)
    (Cert.Kernel3Ideal.Merge.aSA m c) (Cert.Kernel3Ideal.Merge.aSB m c) (Cert.Kernel3Ideal.Merge.aWA m c) (Cert.Kernel3Ideal.Merge.aWB m c)
    (Cert.Kernel3Ideal.Merge.aWO m c) (Cert.Kernel3Ideal.Merge.aG m c), ?_, ?_⟩
  · exact (θ_run Cert.Kernel3Ideal.defs _ _).mono (fun _ h c => ⟨(h c).1.trans (Cert.Kernel3Ideal.Merge.final_x1 m c),
      (h c).2.1.trans (Cert.Kernel3Ideal.Merge.final_h2 m c), (h c).2.2⟩) (Cert.Kernel3Ideal.Value.run_blocks (F := Ideal) m ρ)
  · refine (θ_run Cert.Reference3Ideal.defs _ _).mono (fun _ h c => ⟨?_, ?_, (h c).2.2⟩) (Cert.Reference3Ideal.Value.run (F := Ideal) m' ρ')
    · rw [(h c).1, (hagree c).1, (hagree c).2.1, (hagree c).2.2.1, (hagree c).2.2.2.1, (hagree c).2.2.2.2.1, (hagree c).2.2.2.2.2.1, (hagree c).2.2.2.2.2.2.1, (hagree c).2.2.2.2.2.2.2.1]
      exact Cert.Reference3Ideal.Merge.reference_x1 _ _ _ _ _ _ _ _
    · rw [(h c).2.1, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
      exact Cert.Reference3Ideal.Merge.reference_h2 _ _ _ _ _ _ _ _ _

/-- The input projection runs, leaves its arguments unchanged and every counter at zero, over the extended reals. -/
theorem frame_kernel4I : quiescent_Kernel4Ideal := fun m ρ _ => Cert.Kernel4Ideal.Proj.frame_run (F := Ideal) m ρ

/-- The input projection's reference runs, leaves its arguments unchanged and every counter at zero. -/
theorem frame_reference4 : quiescent_Reference4Ideal := fun m ρ _ => (θ_run Cert.Reference4Ideal.defs _ _).mono
  (fun r h => ⟨fun c => (h c).2.2.2, sem_eq_zero_of_no_sems (by decide) r.2⟩)
  (Cert.Reference4Ideal.Value.run (F := Ideal) m ρ)

/-- Over the extended reals and with a finite gain and weight, the input projection leaves the three arrays that its reference computes. -/
theorem projection : algebraic_Kernel4Ideal_Reference4Ideal_pre_finite4 := by
  intro m ρ m' ρ' hpre hagree
  have hr : ∀ c, Cert.Kernel4Ideal.Proj.ArgsReal m c := fun c =>
    ⟨Cert.Pre_finite4.real_gain _ _ _ (hpre c).1, Cert.Pre_finite4.real_weight _ _ _ (hpre c).2⟩
  refine ⟨fun c => Cert.Reference4Ideal.Proj.attA (Cert.Kernel4Ideal.Proj.aX m c) (Cert.Kernel4Ideal.Proj.aG m c) (Cert.Kernel4Ideal.Proj.aW m c),
    fun c => Cert.Reference4Ideal.Proj.latA (Cert.Kernel4Ideal.Proj.aX m c) (Cert.Kernel4Ideal.Proj.aG m c) (Cert.Kernel4Ideal.Proj.aW m c),
    fun c => Cert.Reference4Ideal.Proj.gateA (Cert.Kernel4Ideal.Proj.aX m c) (Cert.Kernel4Ideal.Proj.aG m c) (Cert.Kernel4Ideal.Proj.aW m c), ?_, ?_⟩
  · exact (θ_run Cert.Kernel4Ideal.defs _ _).mono (fun _ h c => ⟨(h c).1.trans (Cert.Kernel4Ideal.Proj.final_att m c),
      (h c).2.1.trans (Cert.Kernel4Ideal.Proj.final_lat m c (hr c)), (h c).2.2.1.trans (Cert.Kernel4Ideal.Proj.final_gate m c), (h c).2.2.2⟩)
      (Cert.Kernel4Ideal.Proj.run_arrays m ρ)
  · refine (θ_run Cert.Reference4Ideal.defs _ _).mono (fun _ h c => ⟨?_, ?_, ?_, (h c).2.2.2⟩) (Cert.Reference4Ideal.Value.run (F := Ideal) m' ρ')
    · rw [(h c).1, (hagree c).1, (hagree c).2.1, (hagree c).2.2]
      exact Cert.Reference4Ideal.Proj.reference_att _ _ _
    · rw [(h c).2.1]
      unfold Cert.Reference4Ideal.Value.res_main_v48
      rw [(hagree c).1, (hagree c).2.1, (hagree c).2.2]
      exact Cert.Reference4Ideal.Proj.reference_lat _ _ _
    · rw [(h c).2.2.1, (hagree c).1, (hagree c).2.1, (hagree c).2.2]
      exact Cert.Reference4Ideal.Proj.reference_gate _ _ _

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite.Gen.facts, Cert.Pre_finite4.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  frame_kernel4, frame_kernel4I, fun m ρ _ => frame_kernel4I m ρ trivial, frame_reference4, fun m ρ _ => frame_reference4 m ρ trivial,
  trivial, attention, trivial, feed_forward, trivial, merge, trivial, projection⟩

end Cert.Proof

end
